-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S8x128x16x64 : Shape := ⟨4, ![8, 128, 16, 64]⟩
abbrev S256x512 : Shape := ⟨2, ![256, 512]⟩
abbrev S_ : Shape := ⟨0, ![]⟩
abbrev S2x128x16x64 : Shape := ⟨4, ![2, 128, 16, 64]⟩
abbrev S2x16x128x64 : Shape := ⟨4, ![2, 16, 128, 64]⟩
abbrev S512x128 : Shape := ⟨2, ![512, 128]⟩
abbrev S128x512 : Shape := ⟨2, ![128, 512]⟩
abbrev S2 : Shape := ⟨1, ![2]⟩
abbrev S12 : Shape := ⟨1, ![12]⟩
abbrev S1 : Shape := ⟨1, ![1]⟩
abbrev S1x128x512 : Shape := ⟨3, ![1, 128, 512]⟩
abbrev S128x128 : Shape := ⟨2, ![128, 128]⟩
abbrev S1x1x128x64 : Shape := ⟨4, ![1, 1, 128, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 38
  | .vmem => 23
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S8x128x16x64, .f32⟩
  | .hbm, ⟨3, _⟩ => ⟨S8x128x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x16x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x16x64, .f32⟩
  | .hbm, ⟨33, _⟩ => ⟨S2x128x16x64, .bf16⟩
  | .hbm, ⟨34, _⟩ => ⟨S2x16x128x64, .bf16⟩
  | .hbm, ⟨35, _⟩ => ⟨S2x128x16x64, .bf16⟩
  | .hbm, ⟨36, _⟩ => ⟨S2x16x128x64, .bf16⟩
  | .hbm, ⟨37, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S2x128x512, .bf16⟩
  | .local _ .vmem, ⟨5, _⟩ => ⟨S512x128, .bf16⟩
  | .local _ .vmem, ⟨6, _⟩ => ⟨S512x128, .bf16⟩
  | .local _ .vmem, ⟨7, _⟩ => ⟨S128x512, .bf16⟩
  | .local _ .vmem, ⟨8, _⟩ => ⟨S128x512, .bf16⟩
  | .local _ .vmem, ⟨9, _⟩ => ⟨S512x128, .bf16⟩
  | .local _ .vmem, ⟨10, _⟩ => ⟨S128x512, .bf16⟩
  | .local _ .vmem, ⟨11, _⟩ => ⟨S512x128, .bf16⟩
  | .local _ .vmem, ⟨12, _⟩ => ⟨S128x512, .bf16⟩
  | .local _ .vmem, ⟨13, _⟩ => ⟨S512x128, .bf16⟩
  | .local _ .vmem, ⟨14, _⟩ => ⟨S128x512, .bf16⟩
  | .local _ .vmem, ⟨15, _⟩ => ⟨S512x128, .bf16⟩
  | .local _ .vmem, ⟨16, _⟩ => ⟨S128x512, .bf16⟩
  | .local _ .vmem, ⟨17, _⟩ => ⟨S512x128, .bf16⟩
  | .local _ .vmem, ⟨18, _⟩ => ⟨S128x512, .bf16⟩
  | .local _ .vmem, ⟨19, _⟩ => ⟨S512x128, .bf16⟩
  | .local _ .vmem, ⟨20, _⟩ => ⟨S128x512, .bf16⟩
  | .local _ .vmem, ⟨21, _⟩ => ⟨S2x16x128x64, .bf16⟩
  | .local _ .vmem, ⟨22, _⟩ => ⟨S2x16x128x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_scratch16 : Ref sig .tc := ⟨.vmem, 20, rfl⟩
abbrev cc0_scratch17 : Ref sig .tc := ⟨.vmem, 21, rfl⟩
abbrev cc0_scratch18 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_8 : BitVec 32 := 1#32
  let v15 : BitVec 32 := Scalar.muli v7 c1_i32_8
  let v16 : BitVec 32 := Scalar.addi c0_i32_9 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_11 : BitVec 32 := 1#32
  let v17 : BitVec 32 := Scalar.muli v4 c1_i32_11
  let v18 : BitVec 32 := Scalar.addi c0_i32_12 v17
  v18.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_30 : BitVec 32 := 1#32
  let v43 : BitVec 32 := Scalar.muli v4 c1_i32_30
  let v44 : BitVec 32 := Scalar.addi c0_i32_31 v43
  v44.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_34 : BitVec 32 := 1#32
  let v49 : BitVec 32 := Scalar.muli v4 c1_i32_34
  let v50 : BitVec 32 := Scalar.addi c0_i32_35 v49
  v50.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_38 : BitVec 32 := 1#32
  let v55 : BitVec 32 := Scalar.muli v4 c1_i32_38
  let v56 : BitVec 32 := Scalar.addi c0_i32_39 v55
  v56.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_41 : BitVec 32 := 1#32
  let v61 : BitVec 32 := Scalar.muli v4 c1_i32_41
  let v62 : BitVec 32 := Scalar.addi c0_i32_42 v61
  v62.toNat
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_45 : BitVec 32 := 1#32
  let v67 : BitVec 32 := Scalar.muli v7 c1_i32_45
  let v68 : BitVec 32 := Scalar.addi c0_i32_46 v67
  v68.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_48 : BitVec 32 := 1#32
  let v73 : BitVec 32 := Scalar.muli v7 c1_i32_48
  let v74 : BitVec 32 := Scalar.addi c0_i32_49 v73
  v74.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_51 : BitVec 32 := 1#32
  let v79 : BitVec 32 := Scalar.muli v7 c1_i32_51
  let v80 : BitVec 32 := Scalar.addi c0_i32_52 v79
  v80.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_54 : BitVec 32 := 1#32
  let v85 : BitVec 32 := Scalar.muli v7 c1_i32_54
  let v86 : BitVec 32 := Scalar.addi c0_i32_55 v85
  v86.toNat
def k0_off1 (d0 : Dev nD) (c0_i32_72 : BitVec 32) (c0_i32_73 : BitVec 32) : Fin 4 → Nat :=
  let c0_74 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_71 : BitVec 32 := 4#32
  let v107 : BitVec 32 := Scalar.muli v2 c4_i32_71
  let v108 : BitVec 32 := Scalar.addi v107 c0_i32_72
  let v109 : BitVec 32 := Scalar.addi v108 c0_i32_73
  let v110 : Index := Scalar.indexCast v109
  let c0_75 : Index := 0#32
  let c0_76 : Index := 0#32
  ![0, v110.toNat, 0, 0]
def k0_off2 (d0 : Dev nD) (c0_i32_107 : BitVec 32) (c0_i32_108 : BitVec 32) : Fin 4 → Nat :=
  let c1_109 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v169 : BitVec 32 := Scalar.muli v2 c4_i32_106
  let v170 : BitVec 32 := Scalar.addi v169 c0_i32_107
  let v171 : BitVec 32 := Scalar.addi v170 c0_i32_108
  let v172 : Index := Scalar.indexCast v171
  let c0_110 : Index := 0#32
  let c0_111 : Index := 0#32
  ![1, v172.toNat, 0, 0]
def k0_dev11 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_237 : BitVec 32 := 1#32
  let v375 : BitVec 32 := Scalar.muli v4 c1_i32_237
  let v376 : BitVec 32 := Scalar.addi c0_i32_238 v375
  v376.toNat
def k0_dev12 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_240 : BitVec 32 := 1#32
  let v381 : BitVec 32 := Scalar.muli v4 c1_i32_240
  let v382 : BitVec 32 := Scalar.addi c0_i32_241 v381
  v382.toNat
def k0_dev13 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_243 : BitVec 32 := 1#32
  let v387 : BitVec 32 := Scalar.muli v7 c1_i32_243
  let v388 : BitVec 32 := Scalar.addi c0_i32_244 v387
  v388.toNat
def k0_dev14 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_246 : BitVec 32 := 1#32
  let v393 : BitVec 32 := Scalar.muli v7 c1_i32_246
  let v394 : BitVec 32 := Scalar.addi c0_i32_247 v393
  v394.toNat
def k0_off3 (d0 : Dev nD) (c0_i32_257 : BitVec 32) (c0_i32_258 : BitVec 32) : Fin 4 → Nat :=
  let c0_259 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c4_i32_256 : BitVec 32 := 4#32
  let v405 : BitVec 32 := Scalar.muli v7 c4_i32_256
  let v406 : BitVec 32 := Scalar.addi v405 c0_i32_257
  let v407 : BitVec 32 := Scalar.addi v406 c0_i32_258
  let v408 : Index := Scalar.indexCast v407
  let c0_260 : Index := 0#32
  let c0_261 : Index := 0#32
  ![0, v408.toNat, 0, 0]
def k0_off4 (d0 : Dev nD) (c0_i32_296 : BitVec 32) (c0_i32_297 : BitVec 32) : Fin 4 → Nat :=
  let c1_298 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c4_i32_295 : BitVec 32 := 4#32
  let v470 : BitVec 32 := Scalar.muli v7 c4_i32_295
  let v471 : BitVec 32 := Scalar.addi v470 c0_i32_296
  let v472 : BitVec 32 := Scalar.addi v471 c0_i32_297
  let v473 : Index := Scalar.indexCast v472
  let c0_299 : Index := 0#32
  let c0_300 : Index := 0#32
  ![1, v473.toNat, 0, 0]
def k0_off5 (d0 : Dev nD) (c1_i32_0 : BitVec 32) (c2_i32_339 : BitVec 32) (c0_i32_340 : BitVec 32) : Fin 4 → Nat :=
  let c0_341 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c4_i32_338 : BitVec 32 := 4#32
  let v537 : BitVec 32 := Scalar.muli v4 c4_i32_338
  let v538 : BitVec 32 := Scalar.addi v537 c2_i32_339
  let v539 : BitVec 32 := Scalar.addi v538 c0_i32_340
  let v540 : Index := Scalar.indexCast v539
  let c0_342 : Index := 0#32
  let c0_343 : Index := 0#32
  ![0, v540.toNat, 0, 0]
def k0_off6 (d0 : Dev nD) (c1_i32_0 : BitVec 32) (c2_i32_378 : BitVec 32) (c0_i32_379 : BitVec 32) : Fin 4 → Nat :=
  let c1_380 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c4_i32_377 : BitVec 32 := 4#32
  let v602 : BitVec 32 := Scalar.muli v4 c4_i32_377
  let v603 : BitVec 32 := Scalar.addi v602 c2_i32_378
  let v604 : BitVec 32 := Scalar.addi v603 c0_i32_379
  let v605 : Index := Scalar.indexCast v604
  let c0_381 : Index := 0#32
  let c0_382 : Index := 0#32
  ![1, v605.toNat, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x128x512 : Shape := ⟨3, ![8, 128, 512]⟩
abbrev S512x1024 : Shape := ⟨2, ![512, 1024]⟩
abbrev S8x128x16x64 : Shape := ⟨4, ![8, 128, 16, 64]⟩
abbrev S1024x512 : Shape := ⟨2, ![1024, 512]⟩
abbrev S8x128x1024 : Shape := ⟨3, ![8, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S8x16x128x128 : Shape := ⟨4, ![8, 16, 128, 128]⟩
abbrev S1x1x128x128 : Shape := ⟨4, ![1, 1, 128, 128]⟩
abbrev S8x16x128 : Shape := ⟨3, ![8, 16, 128]⟩
abbrev S8x16x128x1 : Shape := ⟨4, ![8, 16, 128, 1]⟩
abbrev S1x1x128x1 : Shape := ⟨4, ![1, 1, 128, 1]⟩
abbrev S8x16x64x128 : Shape := ⟨4, ![8, 16, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S512x1024, .f32⟩
  | .hbm, ⟨2, _⟩ => ⟨S8x128x16x64, .f32⟩
  | .hbm, ⟨3, _⟩ => ⟨S8x128x16x64, .f32⟩
  | .hbm, ⟨4, _⟩ => ⟨S1024x512, .f32⟩
  | .hbm, ⟨5, _⟩ => ⟨S8x128x1024, .f32⟩
  | .hbm, ⟨6, _⟩ => ⟨S8x128x16x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S8x16x128x128, .f32⟩
  | .hbm, ⟨19, _⟩ => ⟨S_, .f32⟩
  | .hbm, ⟨20, _⟩ => ⟨S8x16x128x128, .f32⟩
  | .hbm, ⟨21, _⟩ => ⟨S8x16x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S8x16x128x128, .i1⟩
  | .hbm, ⟨26, _⟩ => ⟨S8x16x128x128, .f32⟩
  | .hbm, ⟨27, _⟩ => ⟨S8x16x128x128, .f32⟩
  | .hbm, ⟨28, _⟩ => ⟨S_, .f32⟩
  | .hbm, ⟨29, _⟩ => ⟨S8x16x128, .f32⟩
  | .hbm, ⟨30, _⟩ => ⟨S8x16x128x1, .f32⟩
  | .hbm, ⟨31, _⟩ => ⟨S8x16x128x128, .f32⟩
  | .hbm, ⟨32, _⟩ => ⟨S8x16x128x128, .f32⟩
  | .hbm, ⟨33, _⟩ => ⟨S8x16x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S8x16x128, .f32⟩
  | .hbm, ⟨39, _⟩ => ⟨S8x16x128x1, .f32⟩
  | .hbm, ⟨40, _⟩ => ⟨S_, .f32⟩
  | .hbm, ⟨41, _⟩ => ⟨S_, .f32⟩
  | .hbm, ⟨42, _⟩ => ⟨S8x16x128x1, .i1⟩
  | .hbm, ⟨43, _⟩ => ⟨S8x16x128x1, .f32⟩
  | .hbm, ⟨44, _⟩ => ⟨S8x16x128x1, .f32⟩
  | .hbm, ⟨45, _⟩ => ⟨S8x16x128x128, .f32⟩
  | .hbm, ⟨46, _⟩ => ⟨S8x16x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S8x16x128x128, .i1⟩
  | .hbm, ⟨51, _⟩ => ⟨S8x16x128x128, .f32⟩
  | .hbm, ⟨52, _⟩ => ⟨S8x16x128x128, .f32⟩
  | .hbm, ⟨53, _⟩ => ⟨S8x16x64x128, .f32⟩
  | .hbm, ⟨54, _⟩ => ⟨S8x128x16x64, .f32⟩
  | .hbm, ⟨55, _⟩ => ⟨S8x128x1024, .f32⟩
  | .hbm, ⟨56, _⟩ => ⟨S8x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Sched.lean ====
/-
  The protocol of the four-device kernel: neighbours on the ring, the semaphore cells, what every buffer holds when it is
  handed over, and the schedule of duties under which the copies and signals pay each other.

  Device `c` has a left and a right neighbour. Both halves of its two weight blocks go to both neighbours, and one half of
  what came from the left goes on to the right, one half of what came from the right goes on to the left.
  A buffer that two copies and the device itself read at once is held in three shares.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Pipeline.RegionTalk

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's rounds: a cell has at most two duties in its one round. -/
abbrev UB : Type := URounds (GSem nD τ sig) Bool
/-- The pipeline's copy of the rounds algebra beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Neighbours -/

set_option backward.proofsInPublic true in
/-- The left neighbour. -/
def lf (c : Dev nD) : Dev nD := ⟨(c.val + 3) % 4, Nat.mod_lt _ (by decide)⟩
set_option backward.proofsInPublic true in
/-- The right neighbour. -/
def rt (c : Dev nD) : Dev nD := ⟨(c.val + 1) % 4, Nat.mod_lt _ (by decide)⟩
theorem rt_lf (c : Dev nD) : rt (lf c) = c := by revert c; decide
theorem lf_rt (c : Dev nD) : lf (rt c) = c := by revert c; decide
theorem lf_lf (c : Dev nD) : lf (lf c) = rt (rt c) := by revert c; decide
/-- The ring as a permutation of the devices. -/
def ring : Dev nD ≃ Dev nD := ⟨rt, lf, lf_rt, rt_lf⟩

theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem dev3_eq (c : Dev nD) : (⟨k0_dev3 c, k0_dev3_lt c⟩ : Dev nD) = rt c := Fin.ext (k0_dev3_eq c)
theorem dev4_eq (c : Dev nD) : (⟨k0_dev4 c, k0_dev4_lt c⟩ : Dev nD) = rt c := Fin.ext (k0_dev4_eq c)
theorem dev5_eq (c : Dev nD) : (⟨k0_dev5 c, k0_dev5_lt c⟩ : Dev nD) = rt c := Fin.ext (k0_dev5_eq c)
theorem dev6_eq (c : Dev nD) : (⟨k0_dev6 c, k0_dev6_lt c⟩ : Dev nD) = rt c := Fin.ext (k0_dev6_eq c)
theorem dev7_eq (c : Dev nD) : (⟨k0_dev7 c, k0_dev7_lt c⟩ : Dev nD) = lf c := Fin.ext (k0_dev7_eq c)
theorem dev8_eq (c : Dev nD) : (⟨k0_dev8 c, k0_dev8_lt c⟩ : Dev nD) = lf c := Fin.ext (k0_dev8_eq c)
theorem dev9_eq (c : Dev nD) : (⟨k0_dev9 c, k0_dev9_lt c⟩ : Dev nD) = lf c := Fin.ext (k0_dev9_eq c)
theorem dev10_eq (c : Dev nD) : (⟨k0_dev10 c, k0_dev10_lt c⟩ : Dev nD) = lf c := Fin.ext (k0_dev10_eq c)
theorem dev11_eq (c : Dev nD) : (⟨k0_dev11 c, k0_dev11_lt c⟩ : Dev nD) = rt c := Fin.ext (k0_dev11_eq c)
theorem dev12_eq (c : Dev nD) : (⟨k0_dev12 c, k0_dev12_lt c⟩ : Dev nD) = rt c := Fin.ext (k0_dev12_eq c)
theorem dev13_eq (c : Dev nD) : (⟨k0_dev13 c, k0_dev13_lt c⟩ : Dev nD) = lf c := Fin.ext (k0_dev13_eq c)
theorem dev14_eq (c : Dev nD) : (⟨k0_dev14 c, k0_dev14_lt c⟩ : Dev nD) = lf c := Fin.ext (k0_dev14_eq c)

/-! ## Memrefs and semaphores -/

/-- A whole buffer is whole. -/
theorem wh (b : Ref sig .tc) : (Memref.whole b).IsWhole := Memref.isWhole_whole b

abbrev M0 : Memref sig .tc .vmem S2x128x512 .f32 := Memref.whole cc0_stg0_0
abbrev M1 : Memref sig .tc .vmem S512x256 .f32 := Memref.whole cc0_stg1_0
abbrev M2 : Memref sig .tc .hbm S2x16x128x64 .bf16 := Memref.whole main_v16
abbrev M3 : Memref sig .tc .hbm S2x16x128x64 .bf16 := Memref.whole main_v18
abbrev M4 : Memref sig .tc .vmem S256x512 .f32 := Memref.whole cc0_stg2_0
abbrev M5 : Memref sig .tc .vmem S2x128x512 .f32 := Memref.whole cc0_stg3_0
abbrev M6 : Memref sig .tc .vmem S2x128x512 .bf16 := Memref.whole cc0_scratch0
abbrev M7 : Memref sig .tc .vmem S512x128 .bf16 := Memref.whole cc0_scratch1
abbrev M8 : Memref sig .tc .vmem S512x128 .bf16 := Memref.whole cc0_scratch2
abbrev M9 : Memref sig .tc .vmem S128x512 .bf16 := Memref.whole cc0_scratch3
abbrev M10 : Memref sig .tc .vmem S128x512 .bf16 := Memref.whole cc0_scratch4
abbrev M11 : Memref sig .tc .vmem S512x128 .bf16 := Memref.whole cc0_scratch5
abbrev M12 : Memref sig .tc .vmem S128x512 .bf16 := Memref.whole cc0_scratch6
abbrev M13 : Memref sig .tc .vmem S512x128 .bf16 := Memref.whole cc0_scratch7
abbrev M14 : Memref sig .tc .vmem S128x512 .bf16 := Memref.whole cc0_scratch8
abbrev M15 : Memref sig .tc .vmem S512x128 .bf16 := Memref.whole cc0_scratch9
abbrev M16 : Memref sig .tc .vmem S128x512 .bf16 := Memref.whole cc0_scratch10
abbrev M17 : Memref sig .tc .vmem S512x128 .bf16 := Memref.whole cc0_scratch11
abbrev M18 : Memref sig .tc .vmem S128x512 .bf16 := Memref.whole cc0_scratch12
abbrev M19 : Memref sig .tc .vmem S512x128 .bf16 := Memref.whole cc0_scratch13
abbrev M20 : Memref sig .tc .vmem S128x512 .bf16 := Memref.whole cc0_scratch14
abbrev M21 : Memref sig .tc .vmem S512x128 .bf16 := Memref.whole cc0_scratch15
abbrev M22 : Memref sig .tc .vmem S128x512 .bf16 := Memref.whole cc0_scratch16
abbrev M23 : Memref sig .tc .vmem S2x16x128x64 .bf16 := Memref.whole cc0_scratch17
abbrev M24 : Memref sig .tc .vmem S2x16x128x64 .bf16 := Memref.whole cc0_scratch18

/-- The barrier semaphore. -/
abbrev barS : Sem sig := (SemArray.scalar (sig.barrier 0 rfl) : Sems sig S_).sem
/-- The kernel's DMA semaphores, counted from the first after the staging ones: two for the local copies, twelve for
    departures, twelve for arrivals. -/
abbrev dS (k : Fin 26) : DmaSem sig := ⟨4 + k.val, Nat.lt_of_lt_of_le (Nat.add_lt_add_left k.isLt 4) (by decide)⟩

theorem slice_raw0 : ((cc0_scratch19.slice (Rect.unit (s := S2) ![0] S1.size inb_S2_S1_0)).squeeze S_ squeezes_S1_S_).sem = dS 0 := rfl
theorem slice_raw1 : ((cc0_scratch19.slice (Rect.unit (s := S2) ![1] S1.size inb_S2_S1_1)).squeeze S_ squeezes_S1_S_).sem = dS 1 := rfl
theorem slice_sd0 : ((cc0_scratch20.slice (Rect.unit (s := S12) ![0] S1.size inb_S12_S1_0)).squeeze S_ squeezes_S1_S_).sem = dS 2 := rfl
theorem slice_sd1 : ((cc0_scratch20.slice (Rect.unit (s := S12) ![1] S1.size inb_S12_S1_1)).squeeze S_ squeezes_S1_S_).sem = dS 3 := rfl
theorem slice_sd2 : ((cc0_scratch20.slice (Rect.unit (s := S12) ![2] S1.size inb_S12_S1_2)).squeeze S_ squeezes_S1_S_).sem = dS 4 := rfl
theorem slice_sd3 : ((cc0_scratch20.slice (Rect.unit (s := S12) ![3] S1.size inb_S12_S1_3)).squeeze S_ squeezes_S1_S_).sem = dS 5 := rfl
theorem slice_sd4 : ((cc0_scratch20.slice (Rect.unit (s := S12) ![4] S1.size inb_S12_S1_4)).squeeze S_ squeezes_S1_S_).sem = dS 6 := rfl
theorem slice_sd5 : ((cc0_scratch20.slice (Rect.unit (s := S12) ![5] S1.size inb_S12_S1_5)).squeeze S_ squeezes_S1_S_).sem = dS 7 := rfl
theorem slice_sd6 : ((cc0_scratch20.slice (Rect.unit (s := S12) ![6] S1.size inb_S12_S1_6)).squeeze S_ squeezes_S1_S_).sem = dS 8 := rfl
theorem slice_sd7 : ((cc0_scratch20.slice (Rect.unit (s := S12) ![7] S1.size inb_S12_S1_7)).squeeze S_ squeezes_S1_S_).sem = dS 9 := rfl
theorem slice_sd8 : ((cc0_scratch20.slice (Rect.unit (s := S12) ![8] S1.size inb_S12_S1_8)).squeeze S_ squeezes_S1_S_).sem = dS 10 := rfl
theorem slice_sd9 : ((cc0_scratch20.slice (Rect.unit (s := S12) ![9] S1.size inb_S12_S1_9)).squeeze S_ squeezes_S1_S_).sem = dS 11 := rfl
theorem slice_sd10 : ((cc0_scratch20.slice (Rect.unit (s := S12) ![10] S1.size inb_S12_S1_10)).squeeze S_ squeezes_S1_S_).sem = dS 12 := rfl
theorem slice_sd11 : ((cc0_scratch20.slice (Rect.unit (s := S12) ![11] S1.size inb_S12_S1_11)).squeeze S_ squeezes_S1_S_).sem = dS 13 := rfl
theorem slice_rv0 : ((cc0_scratch21.slice (Rect.unit (s := S12) ![0] S1.size inb_S12_S1_0)).squeeze S_ squeezes_S1_S_).sem = dS 14 := rfl
theorem slice_rv1 : ((cc0_scratch21.slice (Rect.unit (s := S12) ![1] S1.size inb_S12_S1_1)).squeeze S_ squeezes_S1_S_).sem = dS 15 := rfl
theorem slice_rv2 : ((cc0_scratch21.slice (Rect.unit (s := S12) ![2] S1.size inb_S12_S1_2)).squeeze S_ squeezes_S1_S_).sem = dS 16 := rfl
theorem slice_rv3 : ((cc0_scratch21.slice (Rect.unit (s := S12) ![3] S1.size inb_S12_S1_3)).squeeze S_ squeezes_S1_S_).sem = dS 17 := rfl
theorem slice_rv4 : ((cc0_scratch21.slice (Rect.unit (s := S12) ![4] S1.size inb_S12_S1_4)).squeeze S_ squeezes_S1_S_).sem = dS 18 := rfl
theorem slice_rv5 : ((cc0_scratch21.slice (Rect.unit (s := S12) ![5] S1.size inb_S12_S1_5)).squeeze S_ squeezes_S1_S_).sem = dS 19 := rfl
theorem slice_rv6 : ((cc0_scratch21.slice (Rect.unit (s := S12) ![6] S1.size inb_S12_S1_6)).squeeze S_ squeezes_S1_S_).sem = dS 20 := rfl
theorem slice_rv7 : ((cc0_scratch21.slice (Rect.unit (s := S12) ![7] S1.size inb_S12_S1_7)).squeeze S_ squeezes_S1_S_).sem = dS 21 := rfl
theorem slice_rv8 : ((cc0_scratch21.slice (Rect.unit (s := S12) ![8] S1.size inb_S12_S1_8)).squeeze S_ squeezes_S1_S_).sem = dS 22 := rfl
theorem slice_rv9 : ((cc0_scratch21.slice (Rect.unit (s := S12) ![9] S1.size inb_S12_S1_9)).squeeze S_ squeezes_S1_S_).sem = dS 23 := rfl
theorem slice_rv10 : ((cc0_scratch21.slice (Rect.unit (s := S12) ![10] S1.size inb_S12_S1_10)).squeeze S_ squeezes_S1_S_).sem = dS 24 := rfl
theorem slice_rv11 : ((cc0_scratch21.slice (Rect.unit (s := S12) ![11] S1.size inb_S12_S1_11)).squeeze S_ squeezes_S1_S_).sem = dS 25 := rfl

abbrev barCell (c : Dev nD) : GSem nD τ sig := ((c : Thread nD τ), .reg barS)
abbrev dCell (c : Dev nD) (k : Fin 26) : GSem nD τ sig := ((c : Thread nD τ), .dma (dS k))

/-- What one copy of a weight half, and one local copy of the keys or values, credits. -/
abbrev N : ℕ := (M11 : Memref sig .tc .vmem S512x128 .bf16).view.dmaCredit
abbrev NK : ℕ := (M23 : Memref sig .tc .vmem S2x16x128x64 .bf16).view.dmaCredit
theorem N_pos : 0 < N := View.dmaCredit_pos _ (by decide)
theorem NK_pos : 0 < NK := View.dmaCredit_pos _ (by decide)
theorem N_wo : (M12 : Memref sig .tc .vmem S128x512 .bf16).view.dmaCredit = N := by decide +kernel

/-! ## Contents -/

variable (W : Dev nD → Valuation τ sig (Elt F))

abbrev CQ (F : FTy → Type) : Type := FVec F S512x128 .bf16
abbrev CO (F : FTy → Type) : Type := FVec F S128x512 .bf16
abbrev CK (F : FTy → Type) : Type := FVec F S2x16x128x64 .bf16

/-- Device `c`'s keys and values, as the host operations leave them. -/
def kV (c : Dev nD) : CK F := W c main_v16
def vV (c : Dev nD) : CK F := W c main_v18
/-- Device `c`'s input and its two weight blocks. -/
def xV (c : Dev nD) : FVec F S2x128x512 .f32 := W c main_arg0
def wqV (c : Dev nD) : FVec F S512x256 .f32 := W c main_arg1
def woV (c : Dev nD) : FVec F S256x512 .f32 := W c main_arg4

/-- The first and second half of device `c`'s query weights, rounded to bf16. -/
def qA (c : Dev nD) : CQ F := k0_pay1 (M1.view.readAt (Elt F) (Rect.unit (s := S512x256) ![0, 0] S512x128.size inb_S512x256_S512x128_0_0).toLoadRect (wqV W c))
def qB (c : Dev nD) : CQ F := k0_pay3 (k0_pay2 (M1.view.readAt (Elt F) (Rect.unit (s := S512x256) ![0, 128] S512x128.size inb_S512x256_S512x128_0_128).toLoadRect (wqV W c)))
/-- The first and second half of its output weights, rounded to bf16. -/
def oA (c : Dev nD) : CO F := k0_pay4 (M4.view.readAt (Elt F) (Rect.unit (s := S256x512) ![0, 0] S128x512.size inb_S256x512_S128x512_0_0).toLoadRect (woV W c))
def oB (c : Dev nD) : CO F := k0_pay5 (M4.view.readAt (Elt F) (Rect.unit (s := S256x512) ![128, 0] S128x512.size inb_S256x512_S128x512_128_0).toLoadRect (woV W c))
/-- Its input, rounded to bf16. -/
def x16 (c : Dev nD) : FVec F S2x128x512 .bf16 := k0_pay6 (M0.view.readAt (Elt F) (Rect.unit (s := S2x128x512) ![0, 0, 0] S2x128x512.size inb_S2x128x512_S2x128x512_0_0_0).toLoadRect (xV W c))

/-- Buffer `r` of device `c` at share `q` and contents `f`. -/
abbrev pt (q : PosShare TreeShare) (c : Dev nD) (r : Ref sig .tc) (f : r.ty.Contents (Elt F)) : sProp 𝕄 :=
  ((c : Thread nD τ).loc r) ↦{q} f
/-- The same at contents not chosen. -/
def any (c : Dev nD) (r : Ref sig .tc) : sProp 𝕄 := iprop(∃ f : Buf (Elt F) ((c : Thread nD τ).loc r), ((c : Thread nD τ).loc r) ↦{fullShare} f)

omit [FloatOps F] in
instance any_storable (c : Dev nD) (r : Ref sig .tc) : BI.Storable (upEmb : UEmb _ 𝕄) (any (F := F) c r) := by unfold any; infer_instance

/-- The three shares of a buffer that two copies and the device read, the two of one that one copy and the device read. -/
abbrev h0 : PosShare TreeShare := fullShare.left
abbrev h1 : PosShare TreeShare := fullShare.right.left
abbrev h2 : PosShare TreeShare := fullShare.right.right
abbrev hr : PosShare TreeShare := fullShare.right

omit [FloatOps F] in
theorem halves (q : PosShare TreeShare) (c : Dev nD) (r : Ref sig .tc) (f : r.ty.Contents (Elt F)) :
    (pt q c r f : sProp 𝕄) ⊣⊢ iprop(pt q.left c r f ∗ pt q.right c r f) :=
  pointsTo_share (PosShare.mem_left_op_right q)

/-! ## The schedule -/

/-- Round 0 of every DMA cell of device `c` is reached. -/
def ownReached (c : Dev nD) : sProp 𝕄 := bigSep Finset.univ fun k : Fin 26 => reached ER (dCell c k) 0
omit [FloatOps F] in
instance ownReached_persistent (c : Dev nD) : BI.Persistent (ownReached (F := F) c) := by unfold ownReached; infer_instance
omit [FloatOps F] in
instance ownReached_storable (c : Dev nD) : BI.Storable (upEmb : UEmb _ 𝕄) (ownReached (F := F) c) := by unfold ownReached; infer_instance
omit [FloatOps F] in
theorem ownReached_at (c : Dev nD) (k : Fin 26) : (ownReached c : sProp 𝕄) ⊢ reached ER (dCell c k) 0 := bigSep_elim (Finset.mem_univ k)

/-- What device `c` is handed with the barrier unit of its right neighbour `n`: the buffers of `n` that `c` writes. -/
def barR (n : Dev nD) : sProp 𝕄 :=
  iprop(any n cc0_scratch5 ∗ any n cc0_scratch6 ∗ any n cc0_scratch7 ∗ any n cc0_scratch8 ∗ any n cc0_scratch13 ∗ any n cc0_scratch14 ∗ ownReached n)
/-- The same of its left neighbour. -/
def barL (n : Dev nD) : sProp 𝕄 :=
  iprop(any n cc0_scratch9 ∗ any n cc0_scratch10 ∗ any n cc0_scratch11 ∗ any n cc0_scratch12 ∗ any n cc0_scratch15 ∗ any n cc0_scratch16 ∗ ownReached n)

/-- What the one duty of DMA cell `k` of device `c` pays: the two local copies, the departures (the source back), the
    arrivals (the landing buffer at what landed). -/
def dPay (c : Dev nD) (k : Fin 26) : sProp 𝕄 := match k.val with
  | 0 => iprop(pt fullShare c cc0_scratch17 (kV W c) ∗ pt fullShare c main_v16 (kV W c))
  | 1 => iprop(pt fullShare c cc0_scratch18 (vV W c) ∗ pt fullShare c main_v18 (vV W c))
  | 2 => pt h0 c cc0_scratch1 (qA W c)
  | 3 => pt h0 c cc0_scratch3 (oA W c)
  | 4 => pt h0 c cc0_scratch2 (qB W c)
  | 5 => pt h0 c cc0_scratch4 (oB W c)
  | 6 => pt h1 c cc0_scratch2 (qB W c)
  | 7 => pt h1 c cc0_scratch4 (oB W c)
  | 8 => pt h1 c cc0_scratch1 (qA W c)
  | 9 => pt h1 c cc0_scratch3 (oA W c)
  | 10 => pt h0 c cc0_scratch5 (qA W (lf c))
  | 11 => pt h0 c cc0_scratch6 (oA W (lf c))
  | 12 => pt h0 c cc0_scratch11 (qB W (rt c))
  | 13 => pt h0 c cc0_scratch12 (oB W (rt c))
  | 14 => pt fullShare c cc0_scratch5 (qA W (lf c))
  | 15 => pt fullShare c cc0_scratch6 (oA W (lf c))
  | 16 => pt fullShare c cc0_scratch7 (qB W (lf c))
  | 17 => pt fullShare c cc0_scratch8 (oB W (lf c))
  | 18 => pt fullShare c cc0_scratch11 (qB W (rt c))
  | 19 => pt fullShare c cc0_scratch12 (oB W (rt c))
  | 20 => pt fullShare c cc0_scratch9 (qA W (rt c))
  | 21 => pt fullShare c cc0_scratch10 (oA W (rt c))
  | 22 => pt fullShare c cc0_scratch13 (qA W (lf (lf c)))
  | 23 => pt fullShare c cc0_scratch14 (oA W (lf (lf c)))
  | 24 => pt fullShare c cc0_scratch15 (qB W (rt (rt c)))
  | 25 => pt fullShare c cc0_scratch16 (oB W (rt (rt c)))
  | _ => iprop(emp)

instance dPay_storable (c : Dev nD) (k : Fin 26) : BI.Storable (upEmb : UEmb _ 𝕄) (dPay W c k) := by
  unfold dPay; split <;> infer_instance
omit [FloatOps F] in
instance barR_storable (n : Dev nD) : BI.Storable (upEmb : UEmb _ 𝕄) (barR (F := F) n) := by unfold barR; infer_instance
omit [FloatOps F] in
instance barL_storable (n : Dev nD) : BI.Storable (upEmb : UEmb _ 𝕄) (barL (F := F) n) := by unfold barL; infer_instance

/-- The DMA cell's index among the kernel's own, when it is one of them. -/
def dIdx (s : DmaSem sig) : Option (Fin 26) := if h : 4 ≤ s.val ∧ s.val - 4 < 26 then some ⟨s.val - 4, h.2⟩ else none
theorem dIdx_dS (k : Fin 26) : dIdx (dS k) = some k := by
  unfold dIdx
  rw [dif_pos ⟨Nat.le_add_right _ _, by simp⟩]
  exact congrArg some (Fin.ext (by simp))

/-- What duty `d` of round 0 of semaphore `s` of device `c` pays. -/
def payOf (c : Dev nD) (d : Bool) : SemLoc sig → sProp 𝕄
  | .reg _ => if d then barR (rt c) else barL (lf c)
  | .dma s => match dIdx s with | some k => dPay W c k | none => iprop(emp)
/-- The duties of round 0 of a semaphore. -/
def dutiesOf : SemLoc sig → Finset Bool
  | .reg _ => Finset.univ
  | .dma s => if (dIdx s).isSome then {false} else ∅
/-- What each duty of a semaphore credits. -/
def amtOf : SemLoc sig → ℕ
  | .reg _ => 1
  | .dma s => if s.val < 6 then NK else N
theorem amtOf_pos (s : SemLoc sig) : 0 < amtOf s := by
  cases s with
  | reg s => exact Nat.one_pos
  | dma s =>
    show 0 < (if s.val < 6 then NK else N)
    split
    · exact NK_pos
    · exact N_pos

/-- One round on every cell: two duties on a barrier cell, one on each of the kernel's DMA cells. -/
def talk : Rounds.Schedule (GSem nD τ sig) Bool 𝕄 where
  duties g r := if r = 0 ∧ g.1.2 = .tc then dutiesOf g.2 else ∅
  unitless _ := False
  amount g _ _ := amtOf g.2
  payload g _ d := payOf W g.1.1 d g.2
  amount_pos g _ _ _ := amtOf_pos g.2

instance talk_payload_storable (g : GSem nD τ sig) (r : ℕ) (d : Bool) :
    BI.Storable (upEmb : UEmb _ 𝕄) ((talk W).payload g r d) := by
  show BI.Storable upEmb (payOf W g.1.1 d g.2)
  obtain ⟨g, s⟩ := g
  cases s with
  | reg s => dsimp only [payOf]; split <;> infer_instance
  | dma s => dsimp only [payOf]; split <;> infer_instance

section Tables
variable (c : Dev nD)

theorem duties_bar : (talk W).duties (barCell c) 0 = Finset.univ := by dsimp only [talk]; exact if_pos ⟨rfl, rfl⟩
theorem duties_d (k : Fin 26) : (talk W).duties (dCell c k) 0 = {false} := by
  dsimp only [talk, dutiesOf]
  rw [if_pos ⟨rfl, rfl⟩, dIdx_dS]; rfl
theorem mem_d (k : Fin 26) : false ∈ (talk W).duties (dCell c k) 0 := by rw [duties_d]; exact Finset.mem_singleton_self _
theorem mem_bar (d : Bool) : d ∈ (talk W).duties (barCell c) 0 := by rw [duties_bar]; exact Finset.mem_univ _
theorem duties_later (g : GSem nD τ sig) : ∀ r, 1 ≤ r → (talk W).duties g r = ∅ := fun r hr => by dsimp only [talk]; exact if_neg fun h => by omega
theorem amount_bar (d : Bool) : (talk W).amount (barCell c) 0 d = 1 := rfl
theorem amount_d (k : Fin 26) (d : Bool) : (talk W).amount (dCell c k) 0 d = if 4 + k.val < 6 then NK else N := rfl
theorem payload_bar_true : (talk W).payload (barCell c) 0 true = barR (rt c) := rfl
theorem payload_bar_false : (talk W).payload (barCell c) 0 false = barL (lf c) := rfl
theorem payload_d (k : Fin 26) (d : Bool) : (talk W).payload (dCell c k) 0 d = dPay W c k := by
  show (match dIdx (dS k) with | some k => dPay W c k | none => iprop(emp)) = _
  rw [dIdx_dS]
theorem expect_bar : (talk W).expect (barCell c) 0 = 2 := by
  unfold Schedule.expect Schedule.amountOf
  rw [duties_bar, Finset.sum_congr rfl fun d _ => amount_bar W c d, Finset.sum_const, Finset.card_univ, Fintype.card_bool, smul_eq_mul]
theorem expect_d (k : Fin 26) : (talk W).expect (dCell c k) 0 = if 4 + k.val < 6 then NK else N := by
  unfold Schedule.expect Schedule.amountOf; rw [duties_d, Finset.sum_singleton, amount_d]
theorem rest_bar : bigSep ((talk W).duties (barCell c) 0 \ ∅) (fun d => (talk W).payload (barCell c) 0 d) = iprop(barL (lf c) ∗ barR (rt c)) := by
  rw [Finset.sdiff_empty, duties_bar, bigSep_univ_eq_bigSepL [false, true] (by decide) (by decide), bigSepL_cons_cons, bigSepL_singleton,
    payload_bar_false, payload_bar_true]
  rfl
theorem rest_d (k : Fin 26) : bigSep ((talk W).duties (dCell c k) 0 \ ∅) (fun d => (talk W).payload (dCell c k) 0 d) = dPay W c k := by
  rw [Finset.sdiff_empty, duties_d, bigSep_singleton, payload_d]
end Tables

/-! ## What a device owes, and the levels -/

/-- Device `c`'s debts in the order it pays them: the barrier units of its left and its right neighbour, then the twelve
    copies' arrival credits. -/
def dueCell (c : Dev nD) : Fin 14 → GSem nD τ sig
  | 0 => barCell (lf c) | 1 => barCell (rt c)
  | 2 => dCell (rt c) 14 | 3 => dCell (rt c) 15 | 4 => dCell (rt c) 16 | 5 => dCell (rt c) 17
  | 6 => dCell (lf c) 18 | 7 => dCell (lf c) 19 | 8 => dCell (lf c) 20 | 9 => dCell (lf c) 21
  | 10 => dCell (rt c) 22 | 11 => dCell (rt c) 23 | 12 => dCell (lf c) 24 | 13 => dCell (lf c) 25
def dueAmt (s : Fin 14) : ℕ := if s.val < 2 then 1 else N

/-- What it still owes when `n` debts are left. -/
def rem (c : Dev nD) : ℕ → CellTallies nD τ sig Unit
  | 0 => 0
  | n + 1 => rem c n + tallyAt (dueCell c (Fin.ofNat 14 (13 - n))) () (dueAmt (Fin.ofNat 14 (13 - n)))
/-- What it owes at launch. -/
def O₀ (c : Dev nD) : CellTallies nD τ sig Unit := rem c 14

def L (g : GSem nD τ sig) : Finset Unit := if g.1.2 = .tc then {()} else ∅
/-- The level of a semaphore: staging, local copies and departures 0, barriers 1, first-hop arrivals 2, second-hop arrivals 3. -/
def lvS : SemLoc sig → ℕ
  | .reg _ => 1
  | .dma s => if 26 ≤ s.val then 3 else if 18 ≤ s.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem rem_pos {c : Dev nD} {n : ℕ} {g : GSem nD τ sig} {u : Unit} (h : 0 < rem c n g u) :
    ∃ j, j < n ∧ g = dueCell c (Fin.ofNat 14 (13 - j)) := by
  induction n with
  | zero => exact absurd h (Nat.lt_irrefl 0)
  | succ n ih =>
    dsimp only [rem] at h
    rw [Pi.add_apply, Finsupp.add_apply] at h
    rcases Nat.add_pos_iff_pos_or_pos.mp h with h | h
    · obtain ⟨j, hj, e⟩ := ih h; exact ⟨j, Nat.lt_succ_of_lt hj, e⟩
    · rw [tallyAt_apply] at h
      split at h
      · next hg => exact ⟨n, Nat.lt_succ_self n, hg.1⟩
      · exact absurd h (Nat.lt_irrefl 0)

theorem dueCell_tc (c : Dev nD) (s : Fin 14) : (dueCell c s).1.2 = .tc := by fin_cases s <;> rfl
theorem dueCell_lv (c : Dev nD) (s : Fin 14) : lvS (dueCell c s).2 = if s.val < 2 then 1 else if s.val < 10 then 2 else 3 := by
  fin_cases s <;> rfl

/-- A device may wait on a cell of level at most `b` while `n` debts are left, all of them above `b`. -/
theorem mayWait (c : Dev nD) (sm : SemLoc sig) (n b : ℕ) (hb : lvS sm ≤ b)
    (hn : ∀ j, j < n → b < (if 13 - j < 2 then 1 else if 13 - j < 10 then 2 else 3)) (h14 : n ≤ 14) :
    (levAts L lv : sProp 𝕄) ⊢ MayWait (c : Thread nD τ) sm () (rem c n) :=
  MayOwe.of_cut (L := L) (lev := lv) b (fun p hp => by rw [Finset.mem_singleton.mp hp, L_tc]; exact Finset.mem_singleton_self _)
    (fun g u hg => by
      obtain ⟨j, hj, rfl⟩ := rem_pos hg
      unfold L; rw [if_pos (dueCell_tc _ _)]; exact Finset.mem_singleton_self _)
    (fun p hp => by rw [Finset.mem_singleton.mp hp]; exact hb)
    (fun g u hg => by
      obtain ⟨j, hj, rfl⟩ := rem_pos hg
      show b < lvS _
      rw [dueCell_lv]
      have : (Fin.ofNat 14 (13 - j)).val = 13 - j := Nat.mod_eq_of_lt (by omega)
      rw [this]; exact hn j hj)

end Cert.KernelIdealProof

end
-- ==== Proof.KernelIdeal.Steps.lean ====
/-
  The protocol's steps: signalling a neighbour, waiting on the barrier, a copy to a neighbour, a local copy, and the wait on
  a DMA cell, each against the schedule's tables.
-/
module

public import proofs.«01_k».proof.Proof.KernelIdeal.Sched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (K : GSem nD τ sig → ℕ)

/-- Every cell's invariant, and the level of every semaphore. -/
def ctx : sProp 𝕄 :=
  iprop((bigSep Finset.univ fun c : Dev nD => cellInv ER (talk W) (K (barCell c)) (barCell c))
    ∗ (bigSep Finset.univ fun ck : Dev nD × Fin 26 => cellInv ER (talk W) (K (dCell ck.1 ck.2)) (dCell ck.1 ck.2))
    ∗ levAts L lv)

instance ctx_persistent : BI.Persistent (ctx W K) := by unfold ctx; infer_instance

theorem ctx_bar (c : Dev nD) : ctx W K ⊢ cellInv ER (talk W) (K (barCell c)) (barCell c) := by
  unfold ctx
  iintro ⟨H, -, -⟩
  have h : (bigSep Finset.univ fun c : Dev nD => cellInv ER (talk W) (K (barCell c)) (barCell c))
      ⊢ (cellInv ER (talk W) (K (barCell c)) (barCell c) : sProp 𝕄) := bigSep_elim (Finset.mem_univ c)
  iapply h $$ H
theorem ctx_d (c : Dev nD) (k : Fin 26) : ctx W K ⊢ cellInv ER (talk W) (K (dCell c k)) (dCell c k) := by
  unfold ctx
  iintro ⟨-, H, -⟩
  have h : (bigSep Finset.univ fun ck : Dev nD × Fin 26 => cellInv ER (talk W) (K (dCell ck.1 ck.2)) (dCell ck.1 ck.2))
      ⊢ (cellInv ER (talk W) (K (dCell c k)) (dCell c k) : sProp 𝕄) :=
    bigSep_elim (Φ := fun ck : Dev nD × Fin 26 => cellInv ER (talk W) (K (dCell ck.1 ck.2)) (dCell ck.1 ck.2)) (Finset.mem_univ (c, k))
  iapply h $$ H
theorem ctx_lev : ctx W K ⊢ levAts L lv := by
  unfold ctx
  iintro ⟨-, -, H⟩
  iexact H

/-- Device `c` with `n` debts left. -/
def debt (c : Dev nD) (n : ℕ) : sProp 𝕄 := iprop(∃ Wt : Waits sig Unit, owes (c : Thread nD τ) (rem c n) Wt)

/-- The credit for what the duty of DMA cell `k` of device `c` pays, and the right to pay it. -/
abbrev cr (c : Dev nD) (k : Fin 26) : sProp 𝕄 := cred (tallyAt (dCell c k) () (if 4 + k.val < 6 then NK else N))
abbrev tok (c : Dev nD) (k : Fin 26) : sProp 𝕄 := dutyTok ER (dCell c k) 0 false
/-- Device `c` before and after the one round of its DMA cell `k`. -/
abbrev at0 (c : Dev nD) (k : Fin 26) : sProp 𝕄 := atPos ER (dCell c k) 0 ∅ 0
abbrev at1 (c : Dev nD) (k : Fin 26) : sProp 𝕄 := atPos ER (dCell c k) (0 + 1) ∅ 0

section Steps
variable {α : Type} {Q : α → sProp (MT nD τ sig Unit (Elt F) ℕ UU ℕ)} {k : PUnit → Prog (TpuEff nD τ sig (Elt F) Λ₀ .tc) α}

/-- A unit signalled to neighbour `n`'s barrier cell, with the payload of duty `d`. -/
theorem wp_sig (c n n' : Dev nD) (hn : n' = n) (d : Bool) (i : ℕ)
    (hi : rem c (i + 1) = rem c i + tallyAt (barCell n) () 1) :
    iprop(ctx W K ∗ debt c (i + 1) ∗ dutyTok ER (barCell n) 0 d ∗ reached ER (barCell n) 0 ∗ (talk W).payload (barCell n) 0 d)
      ⊢ iprop((debt c i -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n') barS 1) k) Q) := by
  subst hn
  iintro ⟨#HC, HO, Ht, #Hr, Hp⟩ Hk
  unfold debt
  icases HO with ⟨%Wt, HO⟩
  iapply (Rounds.wp_signal 𝒱₀ ER (talk W) (c : Thread nD τ) none (dst := (n' : Thread nD τ)) (sem := barS) (r := 0) (d := d) (κ := K (barCell n'))
      (mem_bar W n' d) (amount_bar W n' d) () (rem c i) hi) $$ [HO Ht Hp]
  · isplitr; · iapply (ctx_bar W K n'); iexact HC
    isplitl [HO]; · iexact HO
    isplitl [Ht]; · iexact Ht
    isplitl [Hp]; · iexact Hp
    iexact Hr
  iintro HO
  iapply Hk
  iexists _; iexact HO

/-- The wait for both neighbours' barrier units. -/
theorem wp_bar (c : Dev nD) (i : ℕ)
    (hi : ∀ j, j < i → 1 < (if 13 - j < 2 then 1 else if 13 - j < 10 then 2 else 3)) (h14 : i ≤ 14) :
    iprop(ctx W K ∗ debt c i ∗ cred (tallyAt (barCell c) () 2) ∗ atPos ER (barCell c) 0 ∅ 0)
      ⊢ iprop(((debt c i ∗ atPos ER (barCell c) (0 + 1) ∅ 0 ∗ barL (lf c) ∗ barR (rt c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  iintro ⟨#HC, HO, Hcr, Hat⟩ Hk
  unfold debt
  icases HO with ⟨%Wt, HO⟩
  iapply (Rounds.wp_wait_rest_token 𝒱₀ ER (talk W) (c : Thread nD τ) none (κ := K (barCell c))
      (wpE_semWait_eq 𝒱₀ (c : Thread nD τ) none Set.univ) (Set.mem_univ _) () (O := rem c i) (W := Wt) (R := 0) (m := 0) (T := ∅)
      ((Nat.zero_add _).trans (expect_bar W c).symm)) $$ [Hcr HO Hat]
  · isplitr; · iapply (ctx_bar W K c); iexact HC
    isplitl [Hcr]; · iexact Hcr
    isplitl [HO]; · iexact HO
    isplitr; · iapply (mayWait c (.reg barS) i 1 (le_refl _) hi h14); iapply (ctx_lev W K); iexact HC
    iexact Hat
  iintro ⟨HO, Hat, -, Hpay⟩
  ihave Hp := (Entails.of_eq (rest_bar W c)) $$ Hpay
  icases Hp with ⟨HL, HR⟩
  iapply Hk
  isplitl [HO]; · iexists _; iexact HO
  isplitl [Hat]; · iexact Hat
  isplitl [HL] <;> iassumption

/-- The wait on a DMA cell of the device: its duty's payload. -/
theorem wp_dwait (c : Dev nD) (j : Fin 26) (i b : ℕ) (hb : lvS (.dma (dS j)) ≤ b)
    (hi : ∀ j, j < i → b < (if 13 - j < 2 then 1 else if 13 - j < 10 then 2 else 3)) (h14 : i ≤ 14)
    {sp sp' : Space} {s s' : Shape} {e e' : EltTy} {ms : Memref sig .tc sp' s' e'} {κ' : Kind} {md : Memref sig κ' sp s e}
    {hs : ms.view.WordExact} {hd : md.view.WordExact} (hcr : md.view.dmaCredit = if 4 + j.val < 6 then NK else N) :
    iprop(ctx W K ∗ debt c i ∗ cr c j ∗ at0 c j)
      ⊢ iprop(((debt c i ∗ at1 c j ∗ dPay W c j)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS j) ms md hs hd) k) Q) := by
  iintro ⟨#HC, HO, Hcr, Hat⟩ Hk
  unfold debt
  icases HO with ⟨%Wt, HO⟩
  iapply (Rounds.wp_wait_rest_token 𝒱₀ ER (talk W) (c : Thread nD τ) none (κ := K (dCell c j))
      (wpE_waitDma2_eq 𝒱₀ (c : Thread nD τ) none Set.univ) (Set.mem_univ _) () (O := rem c i) (W := Wt) (R := 0) (m := 0) (T := ∅)
      ((Nat.zero_add _).trans (hcr.trans (expect_d W c j).symm))) $$ [Hcr HO Hat]
  · isplitr; · iapply (ctx_d W K c j); iexact HC
    isplitl [Hcr]; · rw [hcr]; iexact Hcr
    isplitl [HO]; · iexact HO
    isplitr; · iapply (mayWait c (.dma (dS j)) i b hb hi h14); iapply (ctx_lev W K); iexact HC
    iexact Hat
  iintro ⟨HO, Hat, -, Hpay⟩
  ihave Hp := (Entails.of_eq (rest_d W c j)) $$ Hpay
  iapply Hk
  isplitl [HO]; · iexists _; iexact HO
  isplitl [Hat]; · iexact Hat
  iexact Hp

/-- A copy to neighbour `n`, of a share of the source into the whole of a buffer of `n`. -/
theorem wp_copyTo {sp : Space} {S : Shape} (ms : Memref sig .tc sp S .bf16) (md : Memref sig .tc .vmem S .bf16)
    (c n n' : Dev nD) (hn : n' = n) (j j' : Fin 26) (hj : 6 ≤ 4 + j.val) (hj' : 6 ≤ 4 + j'.val) (q : PosShare TreeShare)
    (fs : Buf (Elt F) (ms.view.loc (c : Thread nD τ))) (fd' : Buf (Elt F) (md.view.loc (n : Thread nD τ)))
    (hs : ms.view.set = Finset.univ) (hd : md.view.set = Finset.univ)
    (hw : ∀ fd : Buf (Elt F) (md.view.loc (n : Thread nD τ)), md.view.write (Elt F) fd (ms.view.read (Elt F) fs) Finset.univ = fd')
    (hcr : md.view.dmaCredit = N)
    (hp : dPay W c j = (ms.view.loc (c : Thread nD τ) ↦{q} fs)) (hp' : dPay W n j' = (md.view.loc (n : Thread nD τ) ↦{fullShare} fd'))
    (i : ℕ) (hi : rem c (i + 1) = rem c i + tallyAt (dCell n j') () N)
    {hsc : (md : Memref sig (Dev.tc n' : Thread nD τ).2.kind .vmem S .bf16).view.ref.isScScratch = false}
    {hsrc : ms.view.WordExact} {hdst : md.view.WordExact}
    {hsem : DmaTarget.Typed sp (.dma (dS j')) (.remote (Dev.tc n' : Thread nD τ) (md : Memref sig (Dev.tc n' : Thread nD τ).2.kind .vmem S .bf16) (.dma (dS j)) hsc)} :
    iprop(ctx W K ∗ ownReached c ∗ ownReached n ∗ (ms.view.loc (c : Thread nD τ) ↦{q} fs)
        ∗ (∃ fd : Buf (Elt F) (md.view.loc (n : Thread nD τ)), md.view.loc (n : Thread nD τ) ↦{fullShare} fd)
        ∗ debt c (i + 1) ∗ tok c j ∗ tok n j')
      ⊢ iprop(((debt c i ∗ cr c j) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ms (.remote (Dev.tc n' : Thread nD τ) md (.dma (dS j)) hsc) (.dma (dS j')) hsrc hdst hsem) k) Q) := by
  subst hn
  have ej : (if 4 + j.val < 6 then NK else N) = N := if_neg (Nat.not_lt.2 hj)
  have ej' : (if 4 + j'.val < 6 then NK else N) = N := if_neg (Nat.not_lt.2 hj')
  iintro ⟨#HC, #Hr, #Hr', Hs, ⟨%fd, Hd⟩, HO, Ht, Ht'⟩ Hk
  unfold debt
  icases HO with ⟨%Wt, HO⟩
  iapply (Rounds.wp_send_pointsTo 𝒱₀ ER (talk W) (c : Thread nD τ) none (c' := (n' : Thread nD τ)) (src := ms) (dst := md)
      (sS := .dma (dS j)) (sem := .dma (dS j')) (q := q) (fs := fs) (κ₁ := K (dCell c j)) (κ₂ := K (dCell n' j'))
      (r₁ := 0) (r₂ := 0) (d₁ := false) (d₂ := false) (fd := fd)
      (mem_d W c j) (mem_d W n' j')
      () () N hcr ((amount_d W c j false).trans ej) ((amount_d W n' j' false).trans ej') (rem c i) hi (W := Wt)
      (by rw [payload_d, hp, hs])
      (by rw [payload_d, hp', hd, hw])) $$ [Hs Hd HO Ht Ht']
  · isplitr; · iapply (ctx_d W K c j); iexact HC
    isplitr; · iapply (ctx_d W K n' j'); iexact HC
    isplitl [Hs]; · rw [hs]; iexact Hs
    isplitl [Hd]; · rw [hd]; iexact Hd
    isplitl [HO]; · iexact HO
    isplitl [Ht]; · iexact Ht
    isplitr; · iapply (ownReached_at c j); iexact Hr
    isplitl [Ht']; · iexact Ht'
    iapply (ownReached_at n' j'); iexact Hr'
  iintro ⟨Hc, HO⟩
  iapply Hk
  isplitl [HO]; · iexists _; iexact HO
  rw [show cr c j = (cred (tallyAt (dCell c j) () N) : sProp 𝕄) from by unfold cr; rw [ej]]
  iexact Hc

/-- A copy within the device, of the whole of one buffer into the whole of another. -/
theorem wp_copyHere {sp sp' : Space} {S : Shape} {e : EltTy} (ms : Memref sig .tc sp S e) (md : Memref sig .tc sp' S e)
    (c : Dev nD) (j : Fin 26) (hj : 4 + j.val < 6)
    (fs : Buf (Elt F) (ms.view.loc (c : Thread nD τ))) (fd' : Buf (Elt F) (md.view.loc (c : Thread nD τ)))
    (hs : ms.view.set = Finset.univ) (hd : md.view.set = Finset.univ)
    (hw : ∀ fd : Buf (Elt F) (md.view.loc (c : Thread nD τ)), md.view.write (Elt F) fd (ms.view.read (Elt F) fs) Finset.univ = fd')
    (hcr : md.view.dmaCredit = NK)
    (hp : dPay W c j = iprop((md.view.loc (c : Thread nD τ) ↦{fullShare} fd') ∗ (ms.view.loc (c : Thread nD τ) ↦{fullShare} fs)))
    {hsrc : ms.view.WordExact} {hdst : md.view.WordExact} {hsem : DmaTarget.Typed (nD := nD) (τ := τ) (p := .tc) sp (.dma (dS j)) (.here md)} :
    iprop(ctx W K ∗ ownReached c ∗ (ms.view.loc (c : Thread nD τ) ↦{fullShare} fs)
        ∗ (∃ fd : Buf (Elt F) (md.view.loc (c : Thread nD τ)), md.view.loc (c : Thread nD τ) ↦{fullShare} fd) ∗ tok c j)
      ⊢ iprop((cr c j -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma ms (.here md) (.dma (dS j)) hsrc hdst hsem) k) Q) := by
  have ej : (if 4 + j.val < 6 then NK else N) = NK := if_pos hj
  iintro ⟨#HC, #Hr, Hs, ⟨%fd, Hd⟩, Ht⟩ Hk
  iapply (Rounds.wp_copy_pointsTo 𝒱₀ ER (talk W) (c : Thread nD τ) none (src := ms) (dst := md) (sem := .dma (dS j)) (q := fullShare)
      (fs := fs) (fd := fd) (r := 0) (d := false) (κ := K (dCell c j))
      (mem_d W c j) () NK hcr ((amount_d W c j false).trans ej)
      (by rw [payload_d, hp, hs, hd, hw])) $$ [Hs Hd Ht]
  · isplitr; · iapply (ctx_d W K c j); iexact HC
    isplitl [Hs]; · rw [hs]; iexact Hs
    isplitl [Hd]; · rw [hd]; iexact Hd
    isplitl [Ht]; · iexact Ht
    iapply (ownReached_at c j); iexact Hr
  iintro Hc
  iapply Hk
  rw [show cr c j = (cred (tallyAt (dCell c j) () NK) : sProp 𝕄) from by unfold cr; rw [ej]]
  iexact Hc

end Steps

/-- After its one round a DMA cell of the device is closed: its counter is back at zero. -/
theorem close_d (c : Dev nD) (j : Fin 26) : iprop(ctx W K ∗ at1 c j) ⊢ (|={Set.univ}=> semVal (dCell c j) 0 : sProp 𝕄) := by
  iintro ⟨#HC, H⟩
  iapply (Rounds.cell_close ER (talk W) (Set.mem_univ (K (dCell c j))) id (duties_later W (dCell c j)))
  isplitr; · iapply (ctx_d W K c j); iexact HC
  iexact H
theorem close_bar (c : Dev nD) : iprop(ctx W K ∗ atPos ER (barCell c) (0 + 1) ∅ 0) ⊢ (|={Set.univ}=> semVal (barCell c) 0 : sProp 𝕄) := by
  iintro ⟨#HC, H⟩
  iapply (Rounds.cell_close ER (talk W) (Set.mem_univ (K (barCell c))) id (duties_later W (barCell c)))
  isplitr; · iapply (ctx_bar W K c); iexact HC
  iexact H

end Cert.KernelIdealProof

end
-- ==== Proof.KernelIdeal.Mem.lean ====
/-
  What the body's loads read and its stores leave: the loads of whole buffers, and the result's buffer as its two blocks.
-/
module

public import proofs.«01_k».proof.Proof.KernelIdeal.Steps
public import Idealize.ShloMosaic.Lib.Pointwise.Index

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One block of the result's buffer, and the whole of it. -/
abbrev CB (F : FTy → Type) : Type := FVec F S1x128x512 .f32
abbrev CF (F : FTy → Type) : Type := FVec F S2x128x512 .f32

/-- The rectangles of the two blocks. -/
abbrev rB0 : Rect S2x128x512 := Rect.unit (s := S2x128x512) ![0, 0, 0] S1x128x512.size inb_S2x128x512_S1x128x512_0_0_0
abbrev rB1 : Rect S2x128x512 := Rect.unit (s := S2x128x512) ![1, 0, 0] S1x128x512.size inb_S2x128x512_S1x128x512_1_0_0

/-- The buffer whose first block is `a` and whose second is `b`. -/
def joinB (a b : CB F) : CF F := fun i => if (i 0).val = 0 then a (ix3 (0 : Fin 1) (i 1) (i 2)) else b (ix3 (0 : Fin 1) (i 1) (i 2))

omit [FloatOps F] in
theorem eq_ix3B (x : S1x128x512.Idx) : x = ix3 (0 : Fin 1) (x 1) (x 2) := by
  funext a
  fin_cases a
  · exact Subsingleton.elim (α := Fin 1) _ _
  · rfl
  · rfl
omit [FloatOps F] in
theorem emb0 (i : S2x128x512.Idx) (h : (i 0).val = 0) : (M5.access rB0 : View sig .tc _ _ _).emb (ix3 (0 : Fin 1) (i 1) (i 2)) = i := by
  funext a
  apply Fin.ext
  fin_cases a
  · exact h.symm
  · show 0 + 1 * (i 1).val = (i 1).val; omega
  · show 0 + 1 * (i 2).val = (i 2).val; omega
omit [FloatOps F] in
theorem emb1 (i : S2x128x512.Idx) (h : (i 0).val ≠ 0) : (M5.access rB1 : View sig .tc _ _ _).emb (ix3 (0 : Fin 1) (i 1) (i 2)) = i := by
  funext a
  apply Fin.ext
  fin_cases a
  · show 1 + 1 * 0 = (i 0).val
    have : (i 0).val < 2 := (i 0).isLt
    omega
  · show 0 + 1 * (i 1).val = (i 1).val; omega
  · show 0 + 1 * (i 2).val = (i 2).val; omega
omit [FloatOps F] in
theorem emb0_zero (x : S1x128x512.Idx) : (((M5.access rB0 : View sig .tc _ _ _).emb x : S2x128x512.Idx) 0).val = 0 := by
  have : (x 0).val < 1 := (x 0).isLt
  show 0 + 1 * (x 0).val = 0
  omega
omit [FloatOps F] in
theorem emb1_one (x : S1x128x512.Idx) : (((M5.access rB1 : View sig .tc _ _ _).emb x : S2x128x512.Idx) 0).val = 1 := by
  have : (x 0).val < 1 := (x 0).isLt
  show 1 + 1 * (x 0).val = 1
  omega
omit [FloatOps F] in
theorem not_mem0 (i : S2x128x512.Idx) (h : (i 0).val ≠ 0) : i ∉ (M5.access rB0 : View sig .tc _ _ _).setOn Finset.univ := fun hm => by
  obtain ⟨x, -, hx⟩ := Finset.mem_map.mp hm
  exact h (by rw [← hx]; exact emb0_zero x)
omit [FloatOps F] in
theorem not_mem1 (i : S2x128x512.Idx) (h : (i 0).val = 0) : i ∉ (M5.access rB1 : View sig .tc _ _ _).setOn Finset.univ := fun hm => by
  obtain ⟨x, -, hx⟩ := Finset.mem_map.mp hm
  have := emb1_one x
  rw [hx] at this
  omega

omit [FloatOps F] in
/-- A store of the first block replaces it. -/
theorem put0 (a b w : CB F) : (M5.access rB0 : View sig .tc _ _ _).write (Elt F) (joinB a b) w Finset.univ = joinB w b := by
  funext i
  by_cases h : (i 0).val = 0
  · have e := (M5.access rB0 : View sig .tc _ _ _).write_emb_of_mem (Val := Elt F) (joinB a b) w (Finset.mem_univ (ix3 (0 : Fin 1) (i 1) (i 2)))
    refine (congrArg _ (emb0 i h).symm).trans (e.trans ?_)
    show w _ = if (i 0).val = 0 then _ else _
    rw [if_pos h]
    rfl
  · refine (View.write_of_not_mem _ _ _ (not_mem0 i h)).trans ?_
    show (if (i 0).val = 0 then _ else _) = if (i 0).val = 0 then _ else _
    rw [if_neg h, if_neg h]
omit [FloatOps F] in
/-- A store of the second block replaces it. -/
theorem put1 (a b w : CB F) : (M5.access rB1 : View sig .tc _ _ _).write (Elt F) (joinB a b) w Finset.univ = joinB a w := by
  funext i
  by_cases h : (i 0).val = 0
  · refine (View.write_of_not_mem _ _ _ (not_mem1 i h)).trans ?_
    show (if (i 0).val = 0 then _ else _) = if (i 0).val = 0 then _ else _
    rw [if_pos h, if_pos h]
  · have e := (M5.access rB1 : View sig .tc _ _ _).write_emb_of_mem (Val := Elt F) (joinB a b) w (Finset.mem_univ (ix3 (0 : Fin 1) (i 1) (i 2)))
    refine (congrArg _ (emb1 i h).symm).trans (e.trans ?_)
    show w _ = if (i 0).val = 0 then _ else _
    rw [if_neg h]
    rfl
omit [FloatOps F] in
/-- A load of a block reads it. -/
theorem get0 (a b : CB F) : M5.view.readAt (Elt F) rB0.toLoadRect (joinB a b) = a := by
  funext x
  show joinB a b ((M5.access rB0 : View sig .tc _ _ _).emb x) = a x
  unfold joinB
  rw [if_pos (emb0_zero x)]
  refine congrArg a ((eq_ix3B x).trans ?_).symm
  funext i
  fin_cases i
  · rfl
  · apply Fin.ext; show (x 1).val = 0 + 1 * (x 1).val; omega
  · apply Fin.ext; show (x 2).val = 0 + 1 * (x 2).val; omega
omit [FloatOps F] in
theorem get1 (a b : CB F) : M5.view.readAt (Elt F) rB1.toLoadRect (joinB a b) = b := by
  funext x
  show joinB a b ((M5.access rB1 : View sig .tc _ _ _).emb x) = b x
  unfold joinB
  rw [if_neg (by rw [emb1_one x]; exact Nat.one_ne_zero)]
  refine congrArg b ((eq_ix3B x).trans ?_).symm
  funext i
  fin_cases i
  · rfl
  · apply Fin.ext; show (x 1).val = 0 + 1 * (x 1).val; omega
  · apply Fin.ext; show (x 2).val = 0 + 1 * (x 2).val; omega
omit [FloatOps F] in
/-- Every contents are their two blocks. -/
theorem eq_join (f : CF F) : ∃ a b : CB F, f = joinB a b :=
  ⟨fun x => f (ix3 (0 : Fin 2) (x 1) (x 2)), fun x => f (ix3 (1 : Fin 2) (x 1) (x 2)), by
    funext i
    unfold joinB
    have h2 : (i 0).val < 2 := (i 0).isLt
    split
    · rename_i hi
      refine congrArg f (funext fun a => ?_)
      fin_cases a
      · apply Fin.ext; exact hi
      · rfl
      · rfl
    · rename_i hi
      refine congrArg f (funext fun a => ?_)
      fin_cases a
      · apply Fin.ext; show (i 0).val = 1; omega
      · rfl
      · rfl⟩

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- The rectangles of the whole buffers. -/
abbrev rQ : Rect S512x128 := Rect.unit (s := S512x128) ![0, 0] S512x128.size inb_S512x128_S512x128_0_0
abbrev rO : Rect S128x512 := Rect.unit (s := S128x512) ![0, 0] S128x512.size inb_S128x512_S128x512_0_0
abbrev rX : Rect S2x128x512 := Rect.unit (s := S2x128x512) ![0, 0, 0] S2x128x512.size inb_S2x128x512_S2x128x512_0_0_0

omit [FloatOps F] in
/-- A store of a whole buffer leaves what was stored. -/
theorem w7 (f w : CQ F) : (M7.access rQ : View sig .tc _ _ _).write (Elt F) f w Finset.univ = w := Memref.write_access_unit_zero_univ (Elt F) cc0_scratch1 hz2 _ f w
omit [FloatOps F] in
theorem w8 (f w : CQ F) : (M8.access rQ : View sig .tc _ _ _).write (Elt F) f w Finset.univ = w := Memref.write_access_unit_zero_univ (Elt F) cc0_scratch2 hz2 _ f w
omit [FloatOps F] in
theorem w9 (f w : CO F) : (M9.access rO : View sig .tc _ _ _).write (Elt F) f w Finset.univ = w := Memref.write_access_unit_zero_univ (Elt F) cc0_scratch3 hz2 _ f w
omit [FloatOps F] in
theorem w10 (f w : CO F) : (M10.access rO : View sig .tc _ _ _).write (Elt F) f w Finset.univ = w := Memref.write_access_unit_zero_univ (Elt F) cc0_scratch4 hz2 _ f w
omit [FloatOps F] in
theorem w6 (f w : FVec F S2x128x512 .bf16) : (M6.access rX : View sig .tc _ _ _).write (Elt F) f w Finset.univ = w := Memref.write_access_unit_zero_univ (Elt F) cc0_scratch0 hz3 _ f w

omit [FloatOps F] in
/-- A load of a whole buffer reads its contents. -/
theorem r7 (f : CQ F) : M7.view.readAt (Elt F) rQ.toLoadRect f = f := Memref.readAt_unit_zero (Elt F) cc0_scratch1 hz2 _ _
omit [FloatOps F] in
theorem r8 (f : CQ F) : M8.view.readAt (Elt F) rQ.toLoadRect f = f := Memref.readAt_unit_zero (Elt F) cc0_scratch2 hz2 _ _
omit [FloatOps F] in
theorem r9 (f : CO F) : M9.view.readAt (Elt F) rO.toLoadRect f = f := Memref.readAt_unit_zero (Elt F) cc0_scratch3 hz2 _ _
omit [FloatOps F] in
theorem r10 (f : CO F) : M10.view.readAt (Elt F) rO.toLoadRect f = f := Memref.readAt_unit_zero (Elt F) cc0_scratch4 hz2 _ _
omit [FloatOps F] in
theorem r11 (f : CQ F) : M11.view.readAt (Elt F) rQ.toLoadRect f = f := Memref.readAt_unit_zero (Elt F) cc0_scratch5 hz2 _ _
omit [FloatOps F] in
theorem r12 (f : CO F) : M12.view.readAt (Elt F) rO.toLoadRect f = f := Memref.readAt_unit_zero (Elt F) cc0_scratch6 hz2 _ _
omit [FloatOps F] in
theorem r13 (f : CQ F) : M13.view.readAt (Elt F) rQ.toLoadRect f = f := Memref.readAt_unit_zero (Elt F) cc0_scratch7 hz2 _ _
omit [FloatOps F] in
theorem r14 (f : CO F) : M14.view.readAt (Elt F) rO.toLoadRect f = f := Memref.readAt_unit_zero (Elt F) cc0_scratch8 hz2 _ _
omit [FloatOps F] in
theorem r15 (f : CQ F) : M15.view.readAt (Elt F) rQ.toLoadRect f = f := Memref.readAt_unit_zero (Elt F) cc0_scratch9 hz2 _ _
omit [FloatOps F] in
theorem r16 (f : CO F) : M16.view.readAt (Elt F) rO.toLoadRect f = f := Memref.readAt_unit_zero (Elt F) cc0_scratch10 hz2 _ _
omit [FloatOps F] in
theorem r17 (f : CQ F) : M17.view.readAt (Elt F) rQ.toLoadRect f = f := Memref.readAt_unit_zero (Elt F) cc0_scratch11 hz2 _ _
omit [FloatOps F] in
theorem r18 (f : CO F) : M18.view.readAt (Elt F) rO.toLoadRect f = f := Memref.readAt_unit_zero (Elt F) cc0_scratch12 hz2 _ _
omit [FloatOps F] in
theorem r19 (f : CQ F) : M19.view.readAt (Elt F) rQ.toLoadRect f = f := Memref.readAt_unit_zero (Elt F) cc0_scratch13 hz2 _ _
omit [FloatOps F] in
theorem r20 (f : CO F) : M20.view.readAt (Elt F) rO.toLoadRect f = f := Memref.readAt_unit_zero (Elt F) cc0_scratch14 hz2 _ _
omit [FloatOps F] in
theorem r21 (f : CQ F) : M21.view.readAt (Elt F) rQ.toLoadRect f = f := Memref.readAt_unit_zero (Elt F) cc0_scratch15 hz2 _ _
omit [FloatOps F] in
theorem r22 (f : CO F) : M22.view.readAt (Elt F) rO.toLoadRect f = f := Memref.readAt_unit_zero (Elt F) cc0_scratch16 hz2 _ _

end Cert.KernelIdealProof

end
-- ==== Proof.KernelIdeal.Sends.lean ====
/-
  The twelve copies to the neighbours, the two local copies, the two barrier signals, each with its buffers named.
-/
module

public import proofs.«01_k».proof.Proof.KernelIdeal.Mem

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (K : GSem nD τ sig → ℕ)

omit [FloatOps F] in
/-- A buffer at a share, as the share's two halves; and back. -/
theorem split (q : PosShare TreeShare) (c : Dev nD) (r : Ref sig .tc) (f : r.ty.Contents (Elt F)) :
    (pt q c r f : sProp 𝕄) ⊢ iprop(pt q.left c r f ∗ pt q.right c r f) := (halves q c r f).1
omit [FloatOps F] in
theorem unite (q : PosShare TreeShare) (c : Dev nD) (r : Ref sig .tc) (f : r.ty.Contents (Elt F)) :
    iprop(pt q.left c r f ∗ pt q.right c r f) ⊢ (pt q c r f : sProp 𝕄) := (halves q c r f).2

section Steps
variable (c : Dev nD)
variable {α : Type} {Q : α → sProp (MT nD τ sig Unit (Elt F) ℕ UU ℕ)} {k : PUnit → Prog (TpuEff nD τ sig (Elt F) Λ₀ .tc) α}

/-- Copy 0: a share of `cc0_scratch1` to the right neighbour's `cc0_scratch5`. -/
theorem send0 {n' : Dev nD} (hn : n' = rt c)
    {hsc : (M11 : Memref sig (Dev.tc n' : Thread nD τ).2.kind .vmem _ .bf16).view.ref.isScScratch = false}
    {hsrc : M7.view.WordExact} {hdst : M11.view.WordExact}
    {hsem : DmaTarget.Typed .vmem (.dma (dS 14)) (.remote (Dev.tc n' : Thread nD τ) (M11 : Memref sig (Dev.tc n' : Thread nD τ).2.kind .vmem _ .bf16) (.dma (dS 2)) hsc)} :
    iprop(ctx W K ∗ ownReached c ∗ ownReached (rt c) ∗ pt h0 c cc0_scratch1 (qA W c) ∗ any (rt c) cc0_scratch5 ∗ debt c 12 ∗ tok c 2 ∗ tok (rt c) 14)
      ⊢ iprop(((debt c 11 ∗ cr c 2) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M7 (.remote (Dev.tc n' : Thread nD τ) M11 (.dma (dS 2)) hsc) (.dma (dS 14)) hsrc hdst hsem) k) Q) :=
  wp_copyTo W K M7 M11 c (rt c) n' hn 2 14 (by decide) (by decide) h0 (qA W c) (qA W (lf (rt c)))
    (View.set_whole _) (View.set_whole _)
    (fun fd => by
      rw [lf_rt]
      show (View.whole cc0_scratch5).write (Elt F) fd ((View.whole cc0_scratch1).read (Elt F) (qA W c)) Finset.univ = qA W c
      rw [View.read_whole]; exact View.write_whole_univ _ _ _)
    rfl rfl rfl 11 rfl

/-- Copy 1: a share of `cc0_scratch3` to the right neighbour's `cc0_scratch6`. -/
theorem send1 {n' : Dev nD} (hn : n' = rt c)
    {hsc : (M12 : Memref sig (Dev.tc n' : Thread nD τ).2.kind .vmem _ .bf16).view.ref.isScScratch = false}
    {hsrc : M9.view.WordExact} {hdst : M12.view.WordExact}
    {hsem : DmaTarget.Typed .vmem (.dma (dS 15)) (.remote (Dev.tc n' : Thread nD τ) (M12 : Memref sig (Dev.tc n' : Thread nD τ).2.kind .vmem _ .bf16) (.dma (dS 3)) hsc)} :
    iprop(ctx W K ∗ ownReached c ∗ ownReached (rt c) ∗ pt h0 c cc0_scratch3 (oA W c) ∗ any (rt c) cc0_scratch6 ∗ debt c 11 ∗ tok c 3 ∗ tok (rt c) 15)
      ⊢ iprop(((debt c 10 ∗ cr c 3) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M9 (.remote (Dev.tc n' : Thread nD τ) M12 (.dma (dS 3)) hsc) (.dma (dS 15)) hsrc hdst hsem) k) Q) :=
  wp_copyTo W K M9 M12 c (rt c) n' hn 3 15 (by decide) (by decide) h0 (oA W c) (oA W (lf (rt c)))
    (View.set_whole _) (View.set_whole _)
    (fun fd => by
      rw [lf_rt]
      show (View.whole cc0_scratch6).write (Elt F) fd ((View.whole cc0_scratch3).read (Elt F) (oA W c)) Finset.univ = oA W c
      rw [View.read_whole]; exact View.write_whole_univ _ _ _)
    rfl rfl rfl 10 rfl

/-- Copy 2: a share of `cc0_scratch2` to the right neighbour's `cc0_scratch7`. -/
theorem send2 {n' : Dev nD} (hn : n' = rt c)
    {hsc : (M13 : Memref sig (Dev.tc n' : Thread nD τ).2.kind .vmem _ .bf16).view.ref.isScScratch = false}
    {hsrc : M8.view.WordExact} {hdst : M13.view.WordExact}
    {hsem : DmaTarget.Typed .vmem (.dma (dS 16)) (.remote (Dev.tc n' : Thread nD τ) (M13 : Memref sig (Dev.tc n' : Thread nD τ).2.kind .vmem _ .bf16) (.dma (dS 4)) hsc)} :
    iprop(ctx W K ∗ ownReached c ∗ ownReached (rt c) ∗ pt h0 c cc0_scratch2 (qB W c) ∗ any (rt c) cc0_scratch7 ∗ debt c 10 ∗ tok c 4 ∗ tok (rt c) 16)
      ⊢ iprop(((debt c 9 ∗ cr c 4) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M8 (.remote (Dev.tc n' : Thread nD τ) M13 (.dma (dS 4)) hsc) (.dma (dS 16)) hsrc hdst hsem) k) Q) :=
  wp_copyTo W K M8 M13 c (rt c) n' hn 4 16 (by decide) (by decide) h0 (qB W c) (qB W (lf (rt c)))
    (View.set_whole _) (View.set_whole _)
    (fun fd => by
      rw [lf_rt]
      show (View.whole cc0_scratch7).write (Elt F) fd ((View.whole cc0_scratch2).read (Elt F) (qB W c)) Finset.univ = qB W c
      rw [View.read_whole]; exact View.write_whole_univ _ _ _)
    rfl rfl rfl 9 rfl

/-- Copy 3: a share of `cc0_scratch4` to the right neighbour's `cc0_scratch8`. -/
theorem send3 {n' : Dev nD} (hn : n' = rt c)
    {hsc : (M14 : Memref sig (Dev.tc n' : Thread nD τ).2.kind .vmem _ .bf16).view.ref.isScScratch = false}
    {hsrc : M10.view.WordExact} {hdst : M14.view.WordExact}
    {hsem : DmaTarget.Typed .vmem (.dma (dS 17)) (.remote (Dev.tc n' : Thread nD τ) (M14 : Memref sig (Dev.tc n' : Thread nD τ).2.kind .vmem _ .bf16) (.dma (dS 5)) hsc)} :
    iprop(ctx W K ∗ ownReached c ∗ ownReached (rt c) ∗ pt h0 c cc0_scratch4 (oB W c) ∗ any (rt c) cc0_scratch8 ∗ debt c 9 ∗ tok c 5 ∗ tok (rt c) 17)
      ⊢ iprop(((debt c 8 ∗ cr c 5) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M10 (.remote (Dev.tc n' : Thread nD τ) M14 (.dma (dS 5)) hsc) (.dma (dS 17)) hsrc hdst hsem) k) Q) :=
  wp_copyTo W K M10 M14 c (rt c) n' hn 5 17 (by decide) (by decide) h0 (oB W c) (oB W (lf (rt c)))
    (View.set_whole _) (View.set_whole _)
    (fun fd => by
      rw [lf_rt]
      show (View.whole cc0_scratch8).write (Elt F) fd ((View.whole cc0_scratch4).read (Elt F) (oB W c)) Finset.univ = oB W c
      rw [View.read_whole]; exact View.write_whole_univ _ _ _)
    rfl rfl rfl 8 rfl

/-- Copy 4: a share of `cc0_scratch2` to the left neighbour's `cc0_scratch11`. -/
theorem send4 {n' : Dev nD} (hn : n' = lf c)
    {hsc : (M17 : Memref sig (Dev.tc n' : Thread nD τ).2.kind .vmem _ .bf16).view.ref.isScScratch = false}
    {hsrc : M8.view.WordExact} {hdst : M17.view.WordExact}
    {hsem : DmaTarget.Typed .vmem (.dma (dS 18)) (.remote (Dev.tc n' : Thread nD τ) (M17 : Memref sig (Dev.tc n' : Thread nD τ).2.kind .vmem _ .bf16) (.dma (dS 6)) hsc)} :
    iprop(ctx W K ∗ ownReached c ∗ ownReached (lf c) ∗ pt h1 c cc0_scratch2 (qB W c) ∗ any (lf c) cc0_scratch11 ∗ debt c 8 ∗ tok c 6 ∗ tok (lf c) 18)
      ⊢ iprop(((debt c 7 ∗ cr c 6) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M8 (.remote (Dev.tc n' : Thread nD τ) M17 (.dma (dS 6)) hsc) (.dma (dS 18)) hsrc hdst hsem) k) Q) :=
  wp_copyTo W K M8 M17 c (lf c) n' hn 6 18 (by decide) (by decide) h1 (qB W c) (qB W (rt (lf c)))
    (View.set_whole _) (View.set_whole _)
    (fun fd => by
      rw [rt_lf]
      show (View.whole cc0_scratch11).write (Elt F) fd ((View.whole cc0_scratch2).read (Elt F) (qB W c)) Finset.univ = qB W c
      rw [View.read_whole]; exact View.write_whole_univ _ _ _)
    rfl rfl rfl 7 rfl

/-- Copy 5: a share of `cc0_scratch4` to the left neighbour's `cc0_scratch12`. -/
theorem send5 {n' : Dev nD} (hn : n' = lf c)
    {hsc : (M18 : Memref sig (Dev.tc n' : Thread nD τ).2.kind .vmem _ .bf16).view.ref.isScScratch = false}
    {hsrc : M10.view.WordExact} {hdst : M18.view.WordExact}
    {hsem : DmaTarget.Typed .vmem (.dma (dS 19)) (.remote (Dev.tc n' : Thread nD τ) (M18 : Memref sig (Dev.tc n' : Thread nD τ).2.kind .vmem _ .bf16) (.dma (dS 7)) hsc)} :
    iprop(ctx W K ∗ ownReached c ∗ ownReached (lf c) ∗ pt h1 c cc0_scratch4 (oB W c) ∗ any (lf c) cc0_scratch12 ∗ debt c 7 ∗ tok c 7 ∗ tok (lf c) 19)
      ⊢ iprop(((debt c 6 ∗ cr c 7) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M10 (.remote (Dev.tc n' : Thread nD τ) M18 (.dma (dS 7)) hsc) (.dma (dS 19)) hsrc hdst hsem) k) Q) :=
  wp_copyTo W K M10 M18 c (lf c) n' hn 7 19 (by decide) (by decide) h1 (oB W c) (oB W (rt (lf c)))
    (View.set_whole _) (View.set_whole _)
    (fun fd => by
      rw [rt_lf]
      show (View.whole cc0_scratch12).write (Elt F) fd ((View.whole cc0_scratch4).read (Elt F) (oB W c)) Finset.univ = oB W c
      rw [View.read_whole]; exact View.write_whole_univ _ _ _)
    rfl rfl rfl 6 rfl

/-- Copy 6: a share of `cc0_scratch1` to the left neighbour's `cc0_scratch9`. -/
theorem send6 {n' : Dev nD} (hn : n' = lf c)
    {hsc : (M15 : Memref sig (Dev.tc n' : Thread nD τ).2.kind .vmem _ .bf16).view.ref.isScScratch = false}
    {hsrc : M7.view.WordExact} {hdst : M15.view.WordExact}
    {hsem : DmaTarget.Typed .vmem (.dma (dS 20)) (.remote (Dev.tc n' : Thread nD τ) (M15 : Memref sig (Dev.tc n' : Thread nD τ).2.kind .vmem _ .bf16) (.dma (dS 8)) hsc)} :
    iprop(ctx W K ∗ ownReached c ∗ ownReached (lf c) ∗ pt h1 c cc0_scratch1 (qA W c) ∗ any (lf c) cc0_scratch9 ∗ debt c 6 ∗ tok c 8 ∗ tok (lf c) 20)
      ⊢ iprop(((debt c 5 ∗ cr c 8) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M7 (.remote (Dev.tc n' : Thread nD τ) M15 (.dma (dS 8)) hsc) (.dma (dS 20)) hsrc hdst hsem) k) Q) :=
  wp_copyTo W K M7 M15 c (lf c) n' hn 8 20 (by decide) (by decide) h1 (qA W c) (qA W (rt (lf c)))
    (View.set_whole _) (View.set_whole _)
    (fun fd => by
      rw [rt_lf]
      show (View.whole cc0_scratch9).write (Elt F) fd ((View.whole cc0_scratch1).read (Elt F) (qA W c)) Finset.univ = qA W c
      rw [View.read_whole]; exact View.write_whole_univ _ _ _)
    rfl rfl rfl 5 rfl

/-- Copy 7: a share of `cc0_scratch3` to the left neighbour's `cc0_scratch10`. -/
theorem send7 {n' : Dev nD} (hn : n' = lf c)
    {hsc : (M16 : Memref sig (Dev.tc n' : Thread nD τ).2.kind .vmem _ .bf16).view.ref.isScScratch = false}
    {hsrc : M9.view.WordExact} {hdst : M16.view.WordExact}
    {hsem : DmaTarget.Typed .vmem (.dma (dS 21)) (.remote (Dev.tc n' : Thread nD τ) (M16 : Memref sig (Dev.tc n' : Thread nD τ).2.kind .vmem _ .bf16) (.dma (dS 9)) hsc)} :
    iprop(ctx W K ∗ ownReached c ∗ ownReached (lf c) ∗ pt h1 c cc0_scratch3 (oA W c) ∗ any (lf c) cc0_scratch10 ∗ debt c 5 ∗ tok c 9 ∗ tok (lf c) 21)
      ⊢ iprop(((debt c 4 ∗ cr c 9) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M9 (.remote (Dev.tc n' : Thread nD τ) M16 (.dma (dS 9)) hsc) (.dma (dS 21)) hsrc hdst hsem) k) Q) :=
  wp_copyTo W K M9 M16 c (lf c) n' hn 9 21 (by decide) (by decide) h1 (oA W c) (oA W (rt (lf c)))
    (View.set_whole _) (View.set_whole _)
    (fun fd => by
      rw [rt_lf]
      show (View.whole cc0_scratch10).write (Elt F) fd ((View.whole cc0_scratch3).read (Elt F) (oA W c)) Finset.univ = oA W c
      rw [View.read_whole]; exact View.write_whole_univ _ _ _)
    rfl rfl rfl 4 rfl

/-- Copy 8: a share of `cc0_scratch5` to the right neighbour's `cc0_scratch13`. -/
theorem send8 {n' : Dev nD} (hn : n' = rt c)
    {hsc : (M19 : Memref sig (Dev.tc n' : Thread nD τ).2.kind .vmem _ .bf16).view.ref.isScScratch = false}
    {hsrc : M11.view.WordExact} {hdst : M19.view.WordExact}
    {hsem : DmaTarget.Typed .vmem (.dma (dS 22)) (.remote (Dev.tc n' : Thread nD τ) (M19 : Memref sig (Dev.tc n' : Thread nD τ).2.kind .vmem _ .bf16) (.dma (dS 10)) hsc)} :
    iprop(ctx W K ∗ ownReached c ∗ ownReached (rt c) ∗ pt h0 c cc0_scratch5 (qA W (lf c)) ∗ any (rt c) cc0_scratch13 ∗ debt c 4 ∗ tok c 10 ∗ tok (rt c) 22)
      ⊢ iprop(((debt c 3 ∗ cr c 10) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M11 (.remote (Dev.tc n' : Thread nD τ) M19 (.dma (dS 10)) hsc) (.dma (dS 22)) hsrc hdst hsem) k) Q) :=
  wp_copyTo W K M11 M19 c (rt c) n' hn 10 22 (by decide) (by decide) h0 (qA W (lf c)) (qA W (lf (lf (rt c))))
    (View.set_whole _) (View.set_whole _)
    (fun fd => by
      rw [lf_rt]
      show (View.whole cc0_scratch13).write (Elt F) fd ((View.whole cc0_scratch5).read (Elt F) (qA W (lf c))) Finset.univ = qA W (lf c)
      rw [View.read_whole]; exact View.write_whole_univ _ _ _)
    rfl rfl rfl 3 rfl

/-- Copy 9: a share of `cc0_scratch6` to the right neighbour's `cc0_scratch14`. -/
theorem send9 {n' : Dev nD} (hn : n' = rt c)
    {hsc : (M20 : Memref sig (Dev.tc n' : Thread nD τ).2.kind .vmem _ .bf16).view.ref.isScScratch = false}
    {hsrc : M12.view.WordExact} {hdst : M20.view.WordExact}
    {hsem : DmaTarget.Typed .vmem (.dma (dS 23)) (.remote (Dev.tc n' : Thread nD τ) (M20 : Memref sig (Dev.tc n' : Thread nD τ).2.kind .vmem _ .bf16) (.dma (dS 11)) hsc)} :
    iprop(ctx W K ∗ ownReached c ∗ ownReached (rt c) ∗ pt h0 c cc0_scratch6 (oA W (lf c)) ∗ any (rt c) cc0_scratch14 ∗ debt c 3 ∗ tok c 11 ∗ tok (rt c) 23)
      ⊢ iprop(((debt c 2 ∗ cr c 11) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M12 (.remote (Dev.tc n' : Thread nD τ) M20 (.dma (dS 11)) hsc) (.dma (dS 23)) hsrc hdst hsem) k) Q) :=
  wp_copyTo W K M12 M20 c (rt c) n' hn 11 23 (by decide) (by decide) h0 (oA W (lf c)) (oA W (lf (lf (rt c))))
    (View.set_whole _) (View.set_whole _)
    (fun fd => by
      rw [lf_rt]
      show (View.whole cc0_scratch14).write (Elt F) fd ((View.whole cc0_scratch6).read (Elt F) (oA W (lf c))) Finset.univ = oA W (lf c)
      rw [View.read_whole]; exact View.write_whole_univ _ _ _)
    rfl rfl rfl 2 rfl

/-- Copy 10: a share of `cc0_scratch11` to the left neighbour's `cc0_scratch15`. -/
theorem send10 {n' : Dev nD} (hn : n' = lf c)
    {hsc : (M21 : Memref sig (Dev.tc n' : Thread nD τ).2.kind .vmem _ .bf16).view.ref.isScScratch = false}
    {hsrc : M17.view.WordExact} {hdst : M21.view.WordExact}
    {hsem : DmaTarget.Typed .vmem (.dma (dS 24)) (.remote (Dev.tc n' : Thread nD τ) (M21 : Memref sig (Dev.tc n' : Thread nD τ).2.kind .vmem _ .bf16) (.dma (dS 12)) hsc)} :
    iprop(ctx W K ∗ ownReached c ∗ ownReached (lf c) ∗ pt h0 c cc0_scratch11 (qB W (rt c)) ∗ any (lf c) cc0_scratch15 ∗ debt c 2 ∗ tok c 12 ∗ tok (lf c) 24)
      ⊢ iprop(((debt c 1 ∗ cr c 12) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M17 (.remote (Dev.tc n' : Thread nD τ) M21 (.dma (dS 12)) hsc) (.dma (dS 24)) hsrc hdst hsem) k) Q) :=
  wp_copyTo W K M17 M21 c (lf c) n' hn 12 24 (by decide) (by decide) h0 (qB W (rt c)) (qB W (rt (rt (lf c))))
    (View.set_whole _) (View.set_whole _)
    (fun fd => by
      rw [rt_lf]
      show (View.whole cc0_scratch15).write (Elt F) fd ((View.whole cc0_scratch11).read (Elt F) (qB W (rt c))) Finset.univ = qB W (rt c)
      rw [View.read_whole]; exact View.write_whole_univ _ _ _)
    rfl rfl rfl 1 rfl

/-- Copy 11: a share of `cc0_scratch12` to the left neighbour's `cc0_scratch16`. -/
theorem send11 {n' : Dev nD} (hn : n' = lf c)
    {hsc : (M22 : Memref sig (Dev.tc n' : Thread nD τ).2.kind .vmem _ .bf16).view.ref.isScScratch = false}
    {hsrc : M18.view.WordExact} {hdst : M22.view.WordExact}
    {hsem : DmaTarget.Typed .vmem (.dma (dS 25)) (.remote (Dev.tc n' : Thread nD τ) (M22 : Memref sig (Dev.tc n' : Thread nD τ).2.kind .vmem _ .bf16) (.dma (dS 13)) hsc)} :
    iprop(ctx W K ∗ ownReached c ∗ ownReached (lf c) ∗ pt h0 c cc0_scratch12 (oB W (rt c)) ∗ any (lf c) cc0_scratch16 ∗ debt c 1 ∗ tok c 13 ∗ tok (lf c) 25)
      ⊢ iprop(((debt c 0 ∗ cr c 13) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M18 (.remote (Dev.tc n' : Thread nD τ) M22 (.dma (dS 13)) hsc) (.dma (dS 25)) hsrc hdst hsem) k) Q) :=
  wp_copyTo W K M18 M22 c (lf c) n' hn 13 25 (by decide) (by decide) h0 (oB W (rt c)) (oB W (rt (rt (lf c))))
    (View.set_whole _) (View.set_whole _)
    (fun fd => by
      rw [rt_lf]
      show (View.whole cc0_scratch16).write (Elt F) fd ((View.whole cc0_scratch12).read (Elt F) (oB W (rt c))) Finset.univ = oB W (rt c)
      rw [View.read_whole]; exact View.write_whole_univ _ _ _)
    rfl rfl rfl 0 rfl

/-- Local copy 0: `main_v16` into `cc0_scratch17`. -/
theorem copy0 {hsrc : M2.view.WordExact} {hdst : M23.view.WordExact} {hsem : DmaTarget.Typed (nD := nD) (τ := τ) (p := .tc) .hbm (.dma (dS 0)) (.here M23)} :
    iprop(ctx W K ∗ ownReached c ∗ pt fullShare c main_v16 (kV W c) ∗ any c cc0_scratch17 ∗ tok c 0)
      ⊢ iprop((cr c 0 -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M2 (.here M23) (.dma (dS 0)) hsrc hdst hsem) k) Q) :=
  wp_copyHere W K M2 M23 c 0 (by decide) (kV W c) (kV W c) (View.set_whole _) (View.set_whole _)
    (fun fd => by
      show (View.whole cc0_scratch17).write (Elt F) fd ((View.whole main_v16).read (Elt F) (kV W c)) Finset.univ = kV W c
      rw [View.read_whole]; exact View.write_whole_univ _ _ _)
    rfl rfl

/-- Local copy 1: `main_v18` into `cc0_scratch18`. -/
theorem copy1 {hsrc : M3.view.WordExact} {hdst : M24.view.WordExact} {hsem : DmaTarget.Typed (nD := nD) (τ := τ) (p := .tc) .hbm (.dma (dS 1)) (.here M24)} :
    iprop(ctx W K ∗ ownReached c ∗ pt fullShare c main_v18 (vV W c) ∗ any c cc0_scratch18 ∗ tok c 1)
      ⊢ iprop((cr c 1 -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M3 (.here M24) (.dma (dS 1)) hsrc hdst hsem) k) Q) :=
  wp_copyHere W K M3 M24 c 1 (by decide) (vV W c) (vV W c) (View.set_whole _) (View.set_whole _)
    (fun fd => by
      show (View.whole cc0_scratch18).write (Elt F) fd ((View.whole main_v18).read (Elt F) (vV W c)) Finset.univ = vV W c
      rw [View.read_whole]; exact View.write_whole_univ _ _ _)
    rfl rfl

/-- The barrier unit to the left neighbour, with the buffers it will write. -/
theorem sig0 {n' : Dev nD} (hn : n' = lf c) :
    iprop(ctx W K ∗ debt c 14 ∗ dutyTok ER (barCell (lf c)) 0 true ∗ reached ER (barCell (lf c)) 0 ∗ barR c)
      ⊢ iprop((debt c 13 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n') barS 1) k) Q) := by
  have h := wp_sig (k := k) (Q := Q) W K c (lf c) n' hn true 13 rfl
  rw [payload_bar_true, rt_lf] at h
  exact h

/-- The barrier unit to the right neighbour, with the buffers it will write. -/
theorem sig1 {n' : Dev nD} (hn : n' = rt c) :
    iprop(ctx W K ∗ debt c 13 ∗ dutyTok ER (barCell (rt c)) 0 false ∗ reached ER (barCell (rt c)) 0 ∗ barL c)
      ⊢ iprop((debt c 12 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n') barS 1) k) Q) := by
  have h := wp_sig (k := k) (Q := Q) W K c (rt c) n' hn false 12 rfl
  rw [payload_bar_false, lf_rt] at h
  exact h

end Steps

end Cert.KernelIdealProof

end
-- ==== Proof.KernelIdeal.Vals.lean ====
/-
  The values the body computes, each named as the program's binder that holds it.
-/
module

public import proofs.«01_k».proof.Proof.KernelIdeal.Sends

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F))

section Values
variable (c : Dev nD)

def u27 : FVec F S512x128 .bf16 := k0_pay2 (M1.view.readAt (Elt F) (Rect.unit (s := S512x256) ![0, 128] S512x128.size inb_S512x256_S512x128_0_128).toLoadRect (wqV W c))
def u103 : Vec F S1x128x512 .bf16 := M6.view.readAt (Elt F) (Rect.unit (s := S2x128x512) ![0, 0, 0] S1x128x512.size inb_S2x128x512_S1x128x512_0_0_0).toLoadRect (x16 W c)
def u111 : Vec F S1x1x128x64 .bf16 := M23.view.readAt (Elt F) (Rect.unit (s := S2x16x128x64) (k0_off1 c 0#32 0#32) S1x1x128x64.size (k0_off1_inb c 0 0)).toLoadRect (kV W c)
def u115 : Vec F S1x1x128x64 .bf16 := M24.view.readAt (Elt F) (Rect.unit (s := S2x16x128x64) (k0_off1 c 0#32 0#32) S1x1x128x64.size (k0_off1_inb c 0 0)).toLoadRect (vV W c)
def u106 : FVec F S128x128 .bf16 := k0_pay7 (qA W c) (u103 W c)
def u117 : FVec F S128x64 .bf16 := k0_pay8 (u115 W c)
def u121 : FVec F S128x128 .f32 := k0_pay9 (qA W c) (u103 W c) (u111 W c)
def u123 : FVec F S128x1 .f32 := k0_pay10 (qA W c) (u103 W c) (u111 W c)
def u137 : Vec F S1x1x128x64 .bf16 := M23.view.readAt (Elt F) (Rect.unit (s := S2x16x128x64) (k0_off1 c 0#32 1#32) S1x1x128x64.size (k0_off1_inb c 0 1)).toLoadRect (kV W c)
def u141 : Vec F S1x1x128x64 .bf16 := M24.view.readAt (Elt F) (Rect.unit (s := S2x16x128x64) (k0_off1 c 0#32 1#32) S1x1x128x64.size (k0_off1_inb c 0 1)).toLoadRect (vV W c)
def u161 : FVec F S128x512 .f32 := k0_pay11 (oA W c) (u106 W c) (u117 W c) (u121 W c) (u123 W c) (u137 W c) (u141 W c)
def s12 : CB F := k0_pay12 (u161 W c)
def u165 : Vec F S1x128x512 .bf16 := M6.view.readAt (Elt F) (Rect.unit (s := S2x128x512) ![1, 0, 0] S1x128x512.size inb_S2x128x512_S1x128x512_1_0_0).toLoadRect (x16 W c)
def u173 : Vec F S1x1x128x64 .bf16 := M23.view.readAt (Elt F) (Rect.unit (s := S2x16x128x64) (k0_off2 c 0#32 0#32) S1x1x128x64.size (k0_off2_inb c 0 0)).toLoadRect (kV W c)
def u177 : Vec F S1x1x128x64 .bf16 := M24.view.readAt (Elt F) (Rect.unit (s := S2x16x128x64) (k0_off2 c 0#32 0#32) S1x1x128x64.size (k0_off2_inb c 0 0)).toLoadRect (vV W c)
def u168 : FVec F S128x128 .bf16 := k0_pay13 (qA W c) (u165 W c)
def u194 : FVec F S128x64 .f32 := k0_pay14 (qA W c) (u165 W c) (u173 W c) (u177 W c)
def u199 : Vec F S1x1x128x64 .bf16 := M23.view.readAt (Elt F) (Rect.unit (s := S2x16x128x64) (k0_off2 c 0#32 1#32) S1x1x128x64.size (k0_off2_inb c 0 1)).toLoadRect (kV W c)
def u203 : Vec F S1x1x128x64 .bf16 := M24.view.readAt (Elt F) (Rect.unit (s := S2x16x128x64) (k0_off2 c 0#32 1#32) S1x1x128x64.size (k0_off2_inb c 0 1)).toLoadRect (vV W c)
def s15 : CB F := k0_pay15 (oA W c) (u168 W c) (u194 W c) (u199 W c) (u203 W c)
def u229 : Vec F S1x128x512 .bf16 := M6.view.readAt (Elt F) (Rect.unit (s := S2x128x512) ![0, 0, 0] S1x128x512.size inb_S2x128x512_S1x128x512_0_0_0).toLoadRect (x16 W c)
def u232 : FVec F S128x128 .bf16 := k0_pay16 (qB W c) (u229 W c)
def u237 : Vec F S1x1x128x64 .bf16 := M23.view.readAt (Elt F) (Rect.unit (s := S2x16x128x64) (k0_off1 c 2#32 0#32) S1x1x128x64.size (k0_off1_inb c 1 0)).toLoadRect (kV W c)
def u241 : Vec F S1x1x128x64 .bf16 := M24.view.readAt (Elt F) (Rect.unit (s := S2x16x128x64) (k0_off1 c 2#32 0#32) S1x1x128x64.size (k0_off1_inb c 1 0)).toLoadRect (vV W c)
def u263 : Vec F S1x1x128x64 .bf16 := M23.view.readAt (Elt F) (Rect.unit (s := S2x16x128x64) (k0_off1 c 2#32 1#32) S1x1x128x64.size (k0_off1_inb c 1 1)).toLoadRect (kV W c)
def u267 : Vec F S1x1x128x64 .bf16 := M24.view.readAt (Elt F) (Rect.unit (s := S2x16x128x64) (k0_off1 c 2#32 1#32) S1x1x128x64.size (k0_off1_inb c 1 1)).toLoadRect (vV W c)
def u258 : FVec F S128x64 .f32 := k0_pay17 (u232 W c) (u237 W c) (u241 W c)
def u269 : FVec F S128x64 .bf16 := k0_pay18 (u267 W c)
def u271 : FVec F S128x128 .f32 := k0_pay19 (u232 W c) (u263 W c)
def s21 : CB F := k0_pay21 (oB W c) (u258 W c) (u269 W c) (u271 W c) (k0_pay20 (F := F)) (s12 W c)
def u294 : Vec F S1x128x512 .bf16 := M6.view.readAt (Elt F) (Rect.unit (s := S2x128x512) ![1, 0, 0] S1x128x512.size inb_S2x128x512_S1x128x512_1_0_0).toLoadRect (x16 W c)
def u302 : Vec F S1x1x128x64 .bf16 := M23.view.readAt (Elt F) (Rect.unit (s := S2x16x128x64) (k0_off2 c 2#32 0#32) S1x1x128x64.size (k0_off2_inb c 1 0)).toLoadRect (kV W c)
def u306 : Vec F S1x1x128x64 .bf16 := M24.view.readAt (Elt F) (Rect.unit (s := S2x16x128x64) (k0_off2 c 2#32 0#32) S1x1x128x64.size (k0_off2_inb c 1 0)).toLoadRect (vV W c)
def u297 : FVec F S128x128 .bf16 := k0_pay22 (qB W c) (u294 W c)
def u304 : FVec F S128x64 .bf16 := k0_pay23 (u302 W c)
def u308 : FVec F S128x64 .bf16 := k0_pay24 (u306 W c)
def u328 : Vec F S1x1x128x64 .bf16 := M23.view.readAt (Elt F) (Rect.unit (s := S2x16x128x64) (k0_off2 c 2#32 1#32) S1x1x128x64.size (k0_off2_inb c 1 1)).toLoadRect (kV W c)
def u332 : Vec F S1x1x128x64 .bf16 := M24.view.readAt (Elt F) (Rect.unit (s := S2x16x128x64) (k0_off2 c 2#32 1#32) S1x1x128x64.size (k0_off2_inb c 1 1)).toLoadRect (vV W c)
def u323 : FVec F S128x64 .f32 := k0_pay25 (u297 W c) (u304 W c) (u308 W c)
def u349 : FVec F S128x64 .f32 := k0_pay26 (u297 W c) (u328 W c) (u332 W c)
def s27 : CB F := k0_pay27 (oB W c) (u323 W c) (u349 W c) (s15 W c)
def u401 : Vec F S1x128x512 .bf16 := M6.view.readAt (Elt F) (Rect.unit (s := S2x128x512) ![0, 0, 0] S1x128x512.size inb_S2x128x512_S1x128x512_0_0_0).toLoadRect (x16 W c)
def u404 : FVec F S128x128 .bf16 := k0_pay28 (qA W (lf c)) (u401 W c)
def u409 : Vec F S1x1x128x64 .bf16 := M23.view.readAt (Elt F) (Rect.unit (s := S2x16x128x64) (k0_off3 c 0#32 0#32) S1x1x128x64.size (k0_off3_inb c 0 0)).toLoadRect (kV W c)
def u413 : Vec F S1x1x128x64 .bf16 := M24.view.readAt (Elt F) (Rect.unit (s := S2x16x128x64) (k0_off3 c 0#32 0#32) S1x1x128x64.size (k0_off3_inb c 0 0)).toLoadRect (vV W c)
def u435 : Vec F S1x1x128x64 .bf16 := M23.view.readAt (Elt F) (Rect.unit (s := S2x16x128x64) (k0_off3 c 0#32 1#32) S1x1x128x64.size (k0_off3_inb c 0 1)).toLoadRect (kV W c)
def u439 : Vec F S1x1x128x64 .bf16 := M24.view.readAt (Elt F) (Rect.unit (s := S2x16x128x64) (k0_off3 c 0#32 1#32) S1x1x128x64.size (k0_off3_inb c 0 1)).toLoadRect (vV W c)
def u430 : FVec F S128x64 .f32 := k0_pay29 (u404 W c) (u409 W c) (u413 W c)
def u441 : FVec F S128x64 .bf16 := k0_pay30 (u439 W c)
def u445 : FVec F S128x128 .f32 := k0_pay31 (u404 W c) (u435 W c)
def u447 : FVec F S128x1 .f32 := k0_pay32 (u404 W c) (u435 W c)
def s33 : CB F := k0_pay33 (oA W (lf c)) (u430 W c) (u441 W c) (u445 W c) (u447 W c) (s21 W c)
def u466 : Vec F S1x128x512 .bf16 := M6.view.readAt (Elt F) (Rect.unit (s := S2x128x512) ![1, 0, 0] S1x128x512.size inb_S2x128x512_S1x128x512_1_0_0).toLoadRect (x16 W c)
def u474 : Vec F S1x1x128x64 .bf16 := M23.view.readAt (Elt F) (Rect.unit (s := S2x16x128x64) (k0_off4 c 0#32 0#32) S1x1x128x64.size (k0_off4_inb c 0 0)).toLoadRect (kV W c)
def u478 : Vec F S1x1x128x64 .bf16 := M24.view.readAt (Elt F) (Rect.unit (s := S2x16x128x64) (k0_off4 c 0#32 0#32) S1x1x128x64.size (k0_off4_inb c 0 0)).toLoadRect (vV W c)
def u469 : FVec F S128x128 .bf16 := k0_pay34 (qA W (lf c)) (u466 W c)
def u480 : FVec F S128x64 .bf16 := k0_pay35 (u478 W c)
def u482 : FVec F S128x128 .f32 := k0_pay36 (qA W (lf c)) (u466 W c) (u474 W c)
def u500 : Vec F S1x1x128x64 .bf16 := M23.view.readAt (Elt F) (Rect.unit (s := S2x16x128x64) (k0_off4 c 0#32 1#32) S1x1x128x64.size (k0_off4_inb c 0 1)).toLoadRect (kV W c)
def u504 : Vec F S1x1x128x64 .bf16 := M24.view.readAt (Elt F) (Rect.unit (s := S2x16x128x64) (k0_off4 c 0#32 1#32) S1x1x128x64.size (k0_off4_inb c 0 1)).toLoadRect (vV W c)
def u524 : FVec F S128x512 .f32 := k0_pay37 (oA W (lf c)) (u469 W c) (u480 W c) (u482 W c) (Scalar.ofBits .f32 0x3E000000#32) (u500 W c) (u504 W c)
def s38 : CB F := k0_pay38 (u524 W c) (s27 W c)
def u533 : Vec F S1x128x512 .bf16 := M6.view.readAt (Elt F) (Rect.unit (s := S2x128x512) ![0, 0, 0] S1x128x512.size inb_S2x128x512_S1x128x512_0_0_0).toLoadRect (x16 W c)
def u541 : Vec F S1x1x128x64 .bf16 := M23.view.readAt (Elt F) (Rect.unit (s := S2x16x128x64) (k0_off5 c 1#32 2#32 0#32) S1x1x128x64.size (k0_off5_inb c 0 1 0)).toLoadRect (kV W c)
def u545 : Vec F S1x1x128x64 .bf16 := M24.view.readAt (Elt F) (Rect.unit (s := S2x16x128x64) (k0_off5 c 1#32 2#32 0#32) S1x1x128x64.size (k0_off5_inb c 0 1 0)).toLoadRect (vV W c)
def u536 : FVec F S128x128 .bf16 := k0_pay39 (qB W (rt c)) (u533 W c)
def u547 : FVec F S128x64 .bf16 := k0_pay40 (u545 W c)
def u556 : FVec F S128x128 .f32 := k0_pay41 (qB W (rt c)) (u533 W c) (u541 W c)
def u567 : Vec F S1x1x128x64 .bf16 := M23.view.readAt (Elt F) (Rect.unit (s := S2x16x128x64) (k0_off5 c 1#32 2#32 1#32) S1x1x128x64.size (k0_off5_inb c 0 1 1)).toLoadRect (kV W c)
def u571 : Vec F S1x1x128x64 .bf16 := M24.view.readAt (Elt F) (Rect.unit (s := S2x16x128x64) (k0_off5 c 1#32 2#32 1#32) S1x1x128x64.size (k0_off5_inb c 0 1 1)).toLoadRect (vV W c)
def u594 : FVec F S128x512 .f32 := k0_pay42 (oB W (rt c)) (u536 W c) (u547 W c) (u556 W c) (u567 W c) (u571 W c) (s33 W c)
def s43 : CB F := k0_pay43 (u594 W c)
def u598 : Vec F S1x128x512 .bf16 := M6.view.readAt (Elt F) (Rect.unit (s := S2x128x512) ![1, 0, 0] S1x128x512.size inb_S2x128x512_S1x128x512_1_0_0).toLoadRect (x16 W c)
def u606 : Vec F S1x1x128x64 .bf16 := M23.view.readAt (Elt F) (Rect.unit (s := S2x16x128x64) (k0_off6 c 1#32 2#32 0#32) S1x1x128x64.size (k0_off6_inb c 0 1 0)).toLoadRect (kV W c)
def u610 : Vec F S1x1x128x64 .bf16 := M24.view.readAt (Elt F) (Rect.unit (s := S2x16x128x64) (k0_off6 c 1#32 2#32 0#32) S1x1x128x64.size (k0_off6_inb c 0 1 0)).toLoadRect (vV W c)
def u601 : FVec F S128x128 .bf16 := k0_pay44 (qB W (rt c)) (u598 W c)
def u627 : FVec F S128x64 .f32 := k0_pay45 (qB W (rt c)) (u598 W c) (u606 W c) (u610 W c)
def u632 : Vec F S1x1x128x64 .bf16 := M23.view.readAt (Elt F) (Rect.unit (s := S2x16x128x64) (k0_off6 c 1#32 2#32 1#32) S1x1x128x64.size (k0_off6_inb c 0 1 1)).toLoadRect (kV W c)
def u636 : Vec F S1x1x128x64 .bf16 := M24.view.readAt (Elt F) (Rect.unit (s := S2x16x128x64) (k0_off6 c 1#32 2#32 1#32) S1x1x128x64.size (k0_off6_inb c 0 1 1)).toLoadRect (vV W c)
def s46 : CB F := k0_pay46 (oB W (rt c)) (u601 W c) (u627 W c) (u632 W c) (u636 W c) (s38 W c)
def u673 : Vec F S1x128x512 .bf16 := M6.view.readAt (Elt F) (Rect.unit (s := S2x128x512) ![0, 0, 0] S1x128x512.size inb_S2x128x512_S1x128x512_0_0_0).toLoadRect (x16 W c)
def u681 : Vec F S1x1x128x64 .bf16 := M23.view.readAt (Elt F) (Rect.unit (s := S2x16x128x64) (k0_off3 c 2#32 0#32) S1x1x128x64.size (k0_off3_inb c 1 0)).toLoadRect (kV W c)
def u685 : Vec F S1x1x128x64 .bf16 := M24.view.readAt (Elt F) (Rect.unit (s := S2x16x128x64) (k0_off3 c 2#32 0#32) S1x1x128x64.size (k0_off3_inb c 1 0)).toLoadRect (vV W c)
def u676 : FVec F S128x128 .bf16 := k0_pay47 (qB W (lf c)) (u673 W c)
def u687 : FVec F S128x64 .bf16 := k0_pay48 (u685 W c)
def u701 : FVec F S128x128 .bf16 := k0_pay49 (qB W (lf c)) (u673 W c) (u681 W c)
def u707 : Vec F S1x1x128x64 .bf16 := M23.view.readAt (Elt F) (Rect.unit (s := S2x16x128x64) (k0_off3 c 2#32 1#32) S1x1x128x64.size (k0_off3_inb c 1 1)).toLoadRect (kV W c)
def u711 : Vec F S1x1x128x64 .bf16 := M24.view.readAt (Elt F) (Rect.unit (s := S2x16x128x64) (k0_off3 c 2#32 1#32) S1x1x128x64.size (k0_off3_inb c 1 1)).toLoadRect (vV W c)
def s50 : CB F := k0_pay50 (oB W (lf c)) (u676 W c) (u687 W c) (u701 W c) (constant S128x64 .f32 0x00000000#32) (u707 W c) (u711 W c) (s43 W c)
def u738 : Vec F S1x128x512 .bf16 := M6.view.readAt (Elt F) (Rect.unit (s := S2x128x512) ![1, 0, 0] S1x128x512.size inb_S2x128x512_S1x128x512_1_0_0).toLoadRect (x16 W c)
def u746 : Vec F S1x1x128x64 .bf16 := M23.view.readAt (Elt F) (Rect.unit (s := S2x16x128x64) (k0_off4 c 2#32 0#32) S1x1x128x64.size (k0_off4_inb c 1 0)).toLoadRect (kV W c)
def u750 : Vec F S1x1x128x64 .bf16 := M24.view.readAt (Elt F) (Rect.unit (s := S2x16x128x64) (k0_off4 c 2#32 0#32) S1x1x128x64.size (k0_off4_inb c 1 0)).toLoadRect (vV W c)
def u772 : Vec F S1x1x128x64 .bf16 := M23.view.readAt (Elt F) (Rect.unit (s := S2x16x128x64) (k0_off4 c 2#32 1#32) S1x1x128x64.size (k0_off4_inb c 1 1)).toLoadRect (kV W c)
def u741 : FVec F S128x128 .bf16 := k0_pay51 (qB W (lf c)) (u738 W c)
def u767 : FVec F S128x64 .f32 := k0_pay52 (qB W (lf c)) (u738 W c) (u746 W c) (u750 W c)
def u774 : FVec F S128x64 .bf16 := k0_pay53 (u772 W c)
def u776 : Vec F S1x1x128x64 .bf16 := M24.view.readAt (Elt F) (Rect.unit (s := S2x16x128x64) (k0_off4 c 2#32 1#32) S1x1x128x64.size (k0_off4_inb c 1 1)).toLoadRect (vV W c)
def s54 : CB F := k0_pay54 (oB W (lf c)) (u741 W c) (u767 W c) (u774 W c) (u776 W c) (s46 W c)
def u813 : Vec F S1x128x512 .bf16 := M6.view.readAt (Elt F) (Rect.unit (s := S2x128x512) ![0, 0, 0] S1x128x512.size inb_S2x128x512_S1x128x512_0_0_0).toLoadRect (x16 W c)
def u821 : Vec F S1x1x128x64 .bf16 := M23.view.readAt (Elt F) (Rect.unit (s := S2x16x128x64) (k0_off5 c 1#32 0#32 0#32) S1x1x128x64.size (k0_off5_inb c 0 0 0)).toLoadRect (kV W c)
def u825 : Vec F S1x1x128x64 .bf16 := M24.view.readAt (Elt F) (Rect.unit (s := S2x16x128x64) (k0_off5 c 1#32 0#32 0#32) S1x1x128x64.size (k0_off5_inb c 0 0 0)).toLoadRect (vV W c)
def u816 : FVec F S128x128 .bf16 := k0_pay55 (qA W (rt c)) (u813 W c)
def u842 : FVec F S128x64 .f32 := k0_pay56 (qA W (rt c)) (u813 W c) (u821 W c) (u825 W c)
def u847 : Vec F S1x1x128x64 .bf16 := M23.view.readAt (Elt F) (Rect.unit (s := S2x16x128x64) (k0_off5 c 1#32 0#32 1#32) S1x1x128x64.size (k0_off5_inb c 0 0 1)).toLoadRect (kV W c)
def u851 : Vec F S1x1x128x64 .bf16 := M24.view.readAt (Elt F) (Rect.unit (s := S2x16x128x64) (k0_off5 c 1#32 0#32 1#32) S1x1x128x64.size (k0_off5_inb c 0 0 1)).toLoadRect (vV W c)
def s57 : CB F := k0_pay57 (oA W (rt c)) (u816 W c) (u842 W c) (u847 W c) (u851 W c) (s50 W c)
def u878 : Vec F S1x128x512 .bf16 := M6.view.readAt (Elt F) (Rect.unit (s := S2x128x512) ![1, 0, 0] S1x128x512.size inb_S2x128x512_S1x128x512_1_0_0).toLoadRect (x16 W c)
def u881 : FVec F S128x128 .bf16 := k0_pay58 (qA W (rt c)) (u878 W c)
def u886 : Vec F S1x1x128x64 .bf16 := M23.view.readAt (Elt F) (Rect.unit (s := S2x16x128x64) (k0_off6 c 1#32 0#32 0#32) S1x1x128x64.size (k0_off6_inb c 0 0 0)).toLoadRect (kV W c)
def u890 : Vec F S1x1x128x64 .bf16 := M24.view.readAt (Elt F) (Rect.unit (s := S2x16x128x64) (k0_off6 c 1#32 0#32 0#32) S1x1x128x64.size (k0_off6_inb c 0 0 0)).toLoadRect (vV W c)
def u912 : Vec F S1x1x128x64 .bf16 := M23.view.readAt (Elt F) (Rect.unit (s := S2x16x128x64) (k0_off6 c 1#32 0#32 1#32) S1x1x128x64.size (k0_off6_inb c 0 0 1)).toLoadRect (kV W c)
def u916 : Vec F S1x1x128x64 .bf16 := M24.view.readAt (Elt F) (Rect.unit (s := S2x16x128x64) (k0_off6 c 1#32 0#32 1#32) S1x1x128x64.size (k0_off6_inb c 0 0 1)).toLoadRect (vV W c)
def u907 : FVec F S128x64 .f32 := k0_pay59 (u881 W c) (u886 W c) (u890 W c)
def u914 : FVec F S128x64 .bf16 := k0_pay60 (u912 W c)
def u918 : FVec F S128x64 .bf16 := k0_pay61 (u916 W c)
def s62 : CB F := k0_pay62 (oA W (rt c)) (u881 W c) (u907 W c) (u914 W c) (u918 W c) (s54 W c)
def u953 : Vec F S1x128x512 .bf16 := M6.view.readAt (Elt F) (Rect.unit (s := S2x128x512) ![0, 0, 0] S1x128x512.size inb_S2x128x512_S1x128x512_0_0_0).toLoadRect (x16 W c)
def u961 : Vec F S1x1x128x64 .bf16 := M23.view.readAt (Elt F) (Rect.unit (s := S2x16x128x64) (k0_off5 c 2#32 0#32 0#32) S1x1x128x64.size (k0_off5_inb c 1 0 0)).toLoadRect (kV W c)
def u965 : Vec F S1x1x128x64 .bf16 := M24.view.readAt (Elt F) (Rect.unit (s := S2x16x128x64) (k0_off5 c 2#32 0#32 0#32) S1x1x128x64.size (k0_off5_inb c 1 0 0)).toLoadRect (vV W c)
def u987 : Vec F S1x1x128x64 .bf16 := M23.view.readAt (Elt F) (Rect.unit (s := S2x16x128x64) (k0_off5 c 2#32 0#32 1#32) S1x1x128x64.size (k0_off5_inb c 1 0 1)).toLoadRect (kV W c)
def u956 : FVec F S128x128 .bf16 := k0_pay63 (qA W (lf (lf c))) (u953 W c)
def u982 : FVec F S128x64 .f32 := k0_pay64 (qA W (lf (lf c))) (u953 W c) (u961 W c) (u965 W c)
def u991 : Vec F S1x1x128x64 .bf16 := M24.view.readAt (Elt F) (Rect.unit (s := S2x16x128x64) (k0_off5 c 2#32 0#32 1#32) S1x1x128x64.size (k0_off5_inb c 1 0 1)).toLoadRect (vV W c)
def s65 : CB F := k0_pay65 (oA W (lf (lf c))) (u956 W c) (u982 W c) (u987 W c) (u991 W c) (s57 W c)
def u1018 : Vec F S1x128x512 .bf16 := M6.view.readAt (Elt F) (Rect.unit (s := S2x128x512) ![1, 0, 0] S1x128x512.size inb_S2x128x512_S1x128x512_1_0_0).toLoadRect (x16 W c)
def u1021 : FVec F S128x128 .bf16 := k0_pay66 (qA W (lf (lf c))) (u1018 W c)
def u1026 : Vec F S1x1x128x64 .bf16 := M23.view.readAt (Elt F) (Rect.unit (s := S2x16x128x64) (k0_off6 c 2#32 0#32 0#32) S1x1x128x64.size (k0_off6_inb c 1 0 0)).toLoadRect (kV W c)
def u1030 : Vec F S1x1x128x64 .bf16 := M24.view.readAt (Elt F) (Rect.unit (s := S2x16x128x64) (k0_off6 c 2#32 0#32 0#32) S1x1x128x64.size (k0_off6_inb c 1 0 0)).toLoadRect (vV W c)
def u1052 : Vec F S1x1x128x64 .bf16 := M23.view.readAt (Elt F) (Rect.unit (s := S2x16x128x64) (k0_off6 c 2#32 0#32 1#32) S1x1x128x64.size (k0_off6_inb c 1 0 1)).toLoadRect (kV W c)
def u1056 : Vec F S1x1x128x64 .bf16 := M24.view.readAt (Elt F) (Rect.unit (s := S2x16x128x64) (k0_off6 c 2#32 0#32 1#32) S1x1x128x64.size (k0_off6_inb c 1 0 1)).toLoadRect (vV W c)
def u1047 : FVec F S128x64 .f32 := k0_pay67 (u1021 W c) (u1026 W c) (u1030 W c)
def u1058 : FVec F S128x64 .bf16 := k0_pay68 (u1056 W c)
def u1062 : FVec F S128x128 .f32 := k0_pay69 (u1021 W c) (u1052 W c)
def s70 : CB F := k0_pay70 (oA W (lf (lf c))) (u1047 W c) (u1058 W c) (u1062 W c) (s62 W c)
def u1093 : Vec F S1x128x512 .bf16 := M6.view.readAt (Elt F) (Rect.unit (s := S2x128x512) ![0, 0, 0] S1x128x512.size inb_S2x128x512_S1x128x512_0_0_0).toLoadRect (x16 W c)
def u1094 : FVec F S128x512 .bf16 := k0_pay71 (u1093 W c)
def u1101 : Vec F S1x1x128x64 .bf16 := M23.view.readAt (Elt F) (Rect.unit (s := S2x16x128x64) (k0_off5 c 2#32 2#32 0#32) S1x1x128x64.size (k0_off5_inb c 1 1 0)).toLoadRect (kV W c)
def u1105 : Vec F S1x1x128x64 .bf16 := M24.view.readAt (Elt F) (Rect.unit (s := S2x16x128x64) (k0_off5 c 2#32 2#32 0#32) S1x1x128x64.size (k0_off5_inb c 1 1 0)).toLoadRect (vV W c)
def u1127 : Vec F S1x1x128x64 .bf16 := M23.view.readAt (Elt F) (Rect.unit (s := S2x16x128x64) (k0_off5 c 2#32 2#32 1#32) S1x1x128x64.size (k0_off5_inb c 1 1 1)).toLoadRect (kV W c)
def u1096 : FVec F S128x128 .bf16 := k0_pay72 (qB W (rt (rt c))) (u1094 W c)
def u1122 : FVec F S128x64 .f32 := k0_pay73 (qB W (rt (rt c))) (u1094 W c) (u1101 W c) (u1105 W c)
def u1129 : FVec F S128x64 .bf16 := k0_pay74 (u1127 W c)
def u1131 : Vec F S1x1x128x64 .bf16 := M24.view.readAt (Elt F) (Rect.unit (s := S2x16x128x64) (k0_off5 c 2#32 2#32 1#32) S1x1x128x64.size (k0_off5_inb c 1 1 1)).toLoadRect (vV W c)
def s75 : CB F := k0_pay75 (oB W (rt (rt c))) (u1096 W c) (u1122 W c) (u1129 W c) (u1131 W c) (s65 W c)
def u1158 : Vec F S1x128x512 .bf16 := M6.view.readAt (Elt F) (Rect.unit (s := S2x128x512) ![1, 0, 0] S1x128x512.size inb_S2x128x512_S1x128x512_1_0_0).toLoadRect (x16 W c)
def u1166 : Vec F S1x1x128x64 .bf16 := M23.view.readAt (Elt F) (Rect.unit (s := S2x16x128x64) (k0_off6 c 2#32 2#32 0#32) S1x1x128x64.size (k0_off6_inb c 1 1 0)).toLoadRect (kV W c)
def u1161 : FVec F S128x128 .bf16 := k0_pay76 (qB W (rt (rt c))) (u1158 W c)
def u1167 : FVec F S1x128x64 .bf16 := k0_pay77 (u1166 W c)
def u1170 : Vec F S1x1x128x64 .bf16 := M24.view.readAt (Elt F) (Rect.unit (s := S2x16x128x64) (k0_off6 c 2#32 2#32 0#32) S1x1x128x64.size (k0_off6_inb c 1 1 0)).toLoadRect (vV W c)
def u1192 : Vec F S1x1x128x64 .bf16 := M23.view.readAt (Elt F) (Rect.unit (s := S2x16x128x64) (k0_off6 c 2#32 2#32 1#32) S1x1x128x64.size (k0_off6_inb c 1 1 1)).toLoadRect (kV W c)
def u1196 : Vec F S1x1x128x64 .bf16 := M24.view.readAt (Elt F) (Rect.unit (s := S2x16x128x64) (k0_off6 c 2#32 2#32 1#32) S1x1x128x64.size (k0_off6_inb c 1 1 1)).toLoadRect (vV W c)
def u1187 : FVec F S128x64 .f32 := k0_pay78 (u1161 W c) (u1167 W c) (u1170 W c)
def u1198 : FVec F S128x64 .bf16 := k0_pay79 (u1196 W c)
def u1207 : FVec F S128x128 .f32 := k0_pay80 (u1161 W c) (u1192 W c)
def s81 : CB F := k0_pay81 (oB W (rt (rt c))) (u1187 W c) (u1198 W c) (u1207 W c) (s70 W c)

end Values

omit [FloatOps F] in
theorem any_elim (c : Dev nD) (r : Ref sig .tc) : any (F := F) c r ⊢ iprop(∃ f : r.ty.Contents (Elt F), pt fullShare c r f) := by
  unfold any; exact Entails.of_eq rfl
omit [FloatOps F] in
theorem any_intro (c : Dev nD) (r : Ref sig .tc) (f : r.ty.Contents (Elt F)) : (pt fullShare c r f : sProp (MT nD τ sig Unit (Elt F) ℕ UU ℕ)) ⊢ any c r := by
  unfold any; iintro H; iexists f; iexact H

end Cert.KernelIdealProof

end
-- ==== Proof.KernelIdeal.Waits.lean ====
/-
  The waits on the device's DMA cells and the stores of whole buffers, each with its buffers named.
-/
module

public import proofs.«01_k».proof.Proof.KernelIdeal.Vals

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F)) (K : GSem nD τ sig → ℕ)

section Steps
variable (c : Dev nD)
variable {α : Type} {Q : α → sProp (MT nD τ sig Unit (Elt F) ℕ UU ℕ)} {k : PUnit → Prog (TpuEff nD τ sig (Elt F) Λ₀ .tc) α}

/-- The wait for local copy 0. -/
theorem wait0 {hs : M2.view.WordExact} {hd : M23.view.WordExact} :
    iprop(ctx W K ∗ debt c 4 ∗ cr c 0 ∗ at0 c 0)
      ⊢ iprop(((debt c 4 ∗ at1 c 0 ∗ (pt fullShare c cc0_scratch17 (kV W c) ∗ pt fullShare c main_v16 (kV W c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 0) M2 M23 hs hd) k) Q) :=
  wp_dwait W K c 0 4 0 (by decide) (by decide) (by decide) rfl

/-- The wait for local copy 1. -/
theorem wait1 {hs : M3.view.WordExact} {hd : M24.view.WordExact} :
    iprop(ctx W K ∗ debt c 4 ∗ cr c 1 ∗ at0 c 1)
      ⊢ iprop(((debt c 4 ∗ at1 c 1 ∗ (pt fullShare c cc0_scratch18 (vV W c) ∗ pt fullShare c main_v18 (vV W c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 1) M3 M24 hs hd) k) Q) :=
  wp_dwait W K c 1 4 0 (by decide) (by decide) (by decide) rfl

/-- The wait for arrival 0. -/
theorem wait14 {hs : M7.view.WordExact} {hd : M11.view.WordExact} :
    iprop(ctx W K ∗ debt c 4 ∗ cr c 14 ∗ at0 c 14)
      ⊢ iprop(((debt c 4 ∗ at1 c 14 ∗ pt fullShare c cc0_scratch5 (qA W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 14) M7 M11 hs hd) k) Q) :=
  wp_dwait W K c 14 4 2 (by decide) (by decide) (by decide) rfl

/-- The wait for arrival 1. -/
theorem wait15 {hs : M9.view.WordExact} {hd : M12.view.WordExact} :
    iprop(ctx W K ∗ debt c 4 ∗ cr c 15 ∗ at0 c 15)
      ⊢ iprop(((debt c 4 ∗ at1 c 15 ∗ pt fullShare c cc0_scratch6 (oA W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 15) M9 M12 hs hd) k) Q) :=
  wp_dwait W K c 15 4 2 (by decide) (by decide) (by decide) rfl

/-- The wait for arrival 4. -/
theorem wait18 {hs : M8.view.WordExact} {hd : M17.view.WordExact} :
    iprop(ctx W K ∗ debt c 4 ∗ cr c 18 ∗ at0 c 18)
      ⊢ iprop(((debt c 4 ∗ at1 c 18 ∗ pt fullShare c cc0_scratch11 (qB W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 18) M8 M17 hs hd) k) Q) :=
  wp_dwait W K c 18 4 2 (by decide) (by decide) (by decide) rfl

/-- The wait for arrival 5. -/
theorem wait19 {hs : M10.view.WordExact} {hd : M18.view.WordExact} :
    iprop(ctx W K ∗ debt c 4 ∗ cr c 19 ∗ at0 c 19)
      ⊢ iprop(((debt c 4 ∗ at1 c 19 ∗ pt fullShare c cc0_scratch12 (oB W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 19) M10 M18 hs hd) k) Q) :=
  wp_dwait W K c 19 4 2 (by decide) (by decide) (by decide) rfl

/-- The wait for arrival 2. -/
theorem wait16 {hs : M8.view.WordExact} {hd : M13.view.WordExact} :
    iprop(ctx W K ∗ debt c 0 ∗ cr c 16 ∗ at0 c 16)
      ⊢ iprop(((debt c 0 ∗ at1 c 16 ∗ pt fullShare c cc0_scratch7 (qB W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 16) M8 M13 hs hd) k) Q) :=
  wp_dwait W K c 16 0 2 (by decide) (by decide) (by decide) rfl

/-- The wait for arrival 3. -/
theorem wait17 {hs : M10.view.WordExact} {hd : M14.view.WordExact} :
    iprop(ctx W K ∗ debt c 0 ∗ cr c 17 ∗ at0 c 17)
      ⊢ iprop(((debt c 0 ∗ at1 c 17 ∗ pt fullShare c cc0_scratch8 (oB W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 17) M10 M14 hs hd) k) Q) :=
  wp_dwait W K c 17 0 2 (by decide) (by decide) (by decide) rfl

/-- The wait for arrival 6. -/
theorem wait20 {hs : M7.view.WordExact} {hd : M15.view.WordExact} :
    iprop(ctx W K ∗ debt c 0 ∗ cr c 20 ∗ at0 c 20)
      ⊢ iprop(((debt c 0 ∗ at1 c 20 ∗ pt fullShare c cc0_scratch9 (qA W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 20) M7 M15 hs hd) k) Q) :=
  wp_dwait W K c 20 0 2 (by decide) (by decide) (by decide) rfl

/-- The wait for arrival 7. -/
theorem wait21 {hs : M9.view.WordExact} {hd : M16.view.WordExact} :
    iprop(ctx W K ∗ debt c 0 ∗ cr c 21 ∗ at0 c 21)
      ⊢ iprop(((debt c 0 ∗ at1 c 21 ∗ pt fullShare c cc0_scratch10 (oA W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 21) M9 M16 hs hd) k) Q) :=
  wp_dwait W K c 21 0 2 (by decide) (by decide) (by decide) rfl

/-- The wait for arrival 8. -/
theorem wait22 {hs : M11.view.WordExact} {hd : M19.view.WordExact} :
    iprop(ctx W K ∗ debt c 0 ∗ cr c 22 ∗ at0 c 22)
      ⊢ iprop(((debt c 0 ∗ at1 c 22 ∗ pt fullShare c cc0_scratch13 (qA W (lf (lf c))))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 22) M11 M19 hs hd) k) Q) :=
  wp_dwait W K c 22 0 3 (by decide) (by decide) (by decide) rfl

/-- The wait for arrival 9. -/
theorem wait23 {hs : M12.view.WordExact} {hd : M20.view.WordExact} :
    iprop(ctx W K ∗ debt c 0 ∗ cr c 23 ∗ at0 c 23)
      ⊢ iprop(((debt c 0 ∗ at1 c 23 ∗ pt fullShare c cc0_scratch14 (oA W (lf (lf c))))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 23) M12 M20 hs hd) k) Q) :=
  wp_dwait W K c 23 0 3 (by decide) (by decide) (by decide) rfl

/-- The wait for arrival 10. -/
theorem wait24 {hs : M17.view.WordExact} {hd : M21.view.WordExact} :
    iprop(ctx W K ∗ debt c 0 ∗ cr c 24 ∗ at0 c 24)
      ⊢ iprop(((debt c 0 ∗ at1 c 24 ∗ pt fullShare c cc0_scratch15 (qB W (rt (rt c))))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 24) M17 M21 hs hd) k) Q) :=
  wp_dwait W K c 24 0 3 (by decide) (by decide) (by decide) rfl

/-- The wait for arrival 11. -/
theorem wait25 {hs : M18.view.WordExact} {hd : M22.view.WordExact} :
    iprop(ctx W K ∗ debt c 0 ∗ cr c 25 ∗ at0 c 25)
      ⊢ iprop(((debt c 0 ∗ at1 c 25 ∗ pt fullShare c cc0_scratch16 (oB W (rt (rt c))))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 25) M18 M22 hs hd) k) Q) :=
  wp_dwait W K c 25 0 3 (by decide) (by decide) (by decide) rfl

/-- The wait for departure 0. -/
theorem wait2 {hs : M11.view.WordExact} {hd : M7.view.WordExact} :
    iprop(ctx W K ∗ debt c 0 ∗ cr c 2 ∗ at0 c 2)
      ⊢ iprop(((debt c 0 ∗ at1 c 2 ∗ pt h0 c cc0_scratch1 (qA W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 2) M11 M7 hs hd) k) Q) :=
  wp_dwait W K c 2 0 0 (by decide) (by decide) (by decide) rfl

/-- The wait for departure 1. -/
theorem wait3 {hs : M12.view.WordExact} {hd : M9.view.WordExact} :
    iprop(ctx W K ∗ debt c 0 ∗ cr c 3 ∗ at0 c 3)
      ⊢ iprop(((debt c 0 ∗ at1 c 3 ∗ pt h0 c cc0_scratch3 (oA W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 3) M12 M9 hs hd) k) Q) :=
  wp_dwait W K c 3 0 0 (by decide) (by decide) (by decide) rfl

/-- The wait for departure 2. -/
theorem wait4 {hs : M13.view.WordExact} {hd : M8.view.WordExact} :
    iprop(ctx W K ∗ debt c 0 ∗ cr c 4 ∗ at0 c 4)
      ⊢ iprop(((debt c 0 ∗ at1 c 4 ∗ pt h0 c cc0_scratch2 (qB W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 4) M13 M8 hs hd) k) Q) :=
  wp_dwait W K c 4 0 0 (by decide) (by decide) (by decide) rfl

/-- The wait for departure 3. -/
theorem wait5 {hs : M14.view.WordExact} {hd : M10.view.WordExact} :
    iprop(ctx W K ∗ debt c 0 ∗ cr c 5 ∗ at0 c 5)
      ⊢ iprop(((debt c 0 ∗ at1 c 5 ∗ pt h0 c cc0_scratch4 (oB W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 5) M14 M10 hs hd) k) Q) :=
  wp_dwait W K c 5 0 0 (by decide) (by decide) (by decide) rfl

/-- The wait for departure 4. -/
theorem wait6 {hs : M17.view.WordExact} {hd : M8.view.WordExact} :
    iprop(ctx W K ∗ debt c 0 ∗ cr c 6 ∗ at0 c 6)
      ⊢ iprop(((debt c 0 ∗ at1 c 6 ∗ pt h1 c cc0_scratch2 (qB W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 6) M17 M8 hs hd) k) Q) :=
  wp_dwait W K c 6 0 0 (by decide) (by decide) (by decide) rfl

/-- The wait for departure 5. -/
theorem wait7 {hs : M18.view.WordExact} {hd : M10.view.WordExact} :
    iprop(ctx W K ∗ debt c 0 ∗ cr c 7 ∗ at0 c 7)
      ⊢ iprop(((debt c 0 ∗ at1 c 7 ∗ pt h1 c cc0_scratch4 (oB W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 7) M18 M10 hs hd) k) Q) :=
  wp_dwait W K c 7 0 0 (by decide) (by decide) (by decide) rfl

/-- The wait for departure 6. -/
theorem wait8 {hs : M15.view.WordExact} {hd : M7.view.WordExact} :
    iprop(ctx W K ∗ debt c 0 ∗ cr c 8 ∗ at0 c 8)
      ⊢ iprop(((debt c 0 ∗ at1 c 8 ∗ pt h1 c cc0_scratch1 (qA W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 8) M15 M7 hs hd) k) Q) :=
  wp_dwait W K c 8 0 0 (by decide) (by decide) (by decide) rfl

/-- The wait for departure 7. -/
theorem wait9 {hs : M16.view.WordExact} {hd : M9.view.WordExact} :
    iprop(ctx W K ∗ debt c 0 ∗ cr c 9 ∗ at0 c 9)
      ⊢ iprop(((debt c 0 ∗ at1 c 9 ∗ pt h1 c cc0_scratch3 (oA W c))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 9) M16 M9 hs hd) k) Q) :=
  wp_dwait W K c 9 0 0 (by decide) (by decide) (by decide) rfl

/-- The wait for departure 8. -/
theorem wait10 {hs : M19.view.WordExact} {hd : M11.view.WordExact} :
    iprop(ctx W K ∗ debt c 0 ∗ cr c 10 ∗ at0 c 10)
      ⊢ iprop(((debt c 0 ∗ at1 c 10 ∗ pt h0 c cc0_scratch5 (qA W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 10) M19 M11 hs hd) k) Q) :=
  wp_dwait W K c 10 0 0 (by decide) (by decide) (by decide) rfl

/-- The wait for departure 9. -/
theorem wait11 {hs : M20.view.WordExact} {hd : M12.view.WordExact} :
    iprop(ctx W K ∗ debt c 0 ∗ cr c 11 ∗ at0 c 11)
      ⊢ iprop(((debt c 0 ∗ at1 c 11 ∗ pt h0 c cc0_scratch6 (oA W (lf c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 11) M20 M12 hs hd) k) Q) :=
  wp_dwait W K c 11 0 0 (by decide) (by decide) (by decide) rfl

/-- The wait for departure 10. -/
theorem wait12 {hs : M21.view.WordExact} {hd : M17.view.WordExact} :
    iprop(ctx W K ∗ debt c 0 ∗ cr c 12 ∗ at0 c 12)
      ⊢ iprop(((debt c 0 ∗ at1 c 12 ∗ pt h0 c cc0_scratch11 (qB W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 12) M21 M17 hs hd) k) Q) :=
  wp_dwait W K c 12 0 0 (by decide) (by decide) (by decide) rfl

/-- The wait for departure 11. -/
theorem wait13 {hs : M22.view.WordExact} {hd : M18.view.WordExact} :
    iprop(ctx W K ∗ debt c 0 ∗ cr c 13 ∗ at0 c 13)
      ⊢ iprop(((debt c 0 ∗ at1 c 13 ∗ pt h0 c cc0_scratch12 (oB W (rt c)))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dS 13) M22 M18 hs hd) k) Q) :=
  wp_dwait W K c 13 0 0 (by decide) (by decide) (by decide) rfl

/-- A store of the whole of `cc0_scratch0`. -/
theorem store6 (f w : FVec F S2x128x512 .bf16) {hx : (M6.access rX).Stores Finset.univ} {hm : (Finset.univ : Finset (rX).shape.Idx) = Finset.univ ∨ ∀ a, (rX).stride a = 1} :
    (pt fullShare c cc0_scratch0 f : sProp (MT nD τ sig Unit (Elt F) ℕ UU ℕ))
      ⊢ iprop((pt fullShare c cc0_scratch0 w -∗ wp frame (wpE (defs₀ (F := F)) 𝒱₀ (c : Thread nD τ) none) Set.univ (k ⟨⟩) Q)
        -∗ wp frame (wpE (defs₀ (F := F)) 𝒱₀ (c : Thread nD τ) none) Set.univ (.op (.store M6 rX w Finset.univ hx hm) k) Q) := by
  have h := wp_store (defs := defs₀ (F := F)) (Γ := PendingWaitsCtx.empty) (Q := Q) (k := k) 𝒱₀ (c : Thread nD τ) none Set.univ (m := M6) (r := rX) (w := w) (Mk := Finset.univ) (hx := hx) (hm := hm) (f := f)
    (Finset.subset_univ _)
  rw [w6] at h
  exact h

/-- A store of the whole of `cc0_scratch1`. -/
theorem store7 (f w : CQ F) {hx : (M7.access rQ).Stores Finset.univ} {hm : (Finset.univ : Finset (rQ).shape.Idx) = Finset.univ ∨ ∀ a, (rQ).stride a = 1} :
    (pt fullShare c cc0_scratch1 f : sProp (MT nD τ sig Unit (Elt F) ℕ UU ℕ))
      ⊢ iprop((pt fullShare c cc0_scratch1 w -∗ wp frame (wpE (defs₀ (F := F)) 𝒱₀ (c : Thread nD τ) none) Set.univ (k ⟨⟩) Q)
        -∗ wp frame (wpE (defs₀ (F := F)) 𝒱₀ (c : Thread nD τ) none) Set.univ (.op (.store M7 rQ w Finset.univ hx hm) k) Q) := by
  have h := wp_store (defs := defs₀ (F := F)) (Γ := PendingWaitsCtx.empty) (Q := Q) (k := k) 𝒱₀ (c : Thread nD τ) none Set.univ (m := M7) (r := rQ) (w := w) (Mk := Finset.univ) (hx := hx) (hm := hm) (f := f)
    (Finset.subset_univ _)
  rw [w7] at h
  exact h

/-- A store of the whole of `cc0_scratch2`. -/
theorem store8 (f w : CQ F) {hx : (M8.access rQ).Stores Finset.univ} {hm : (Finset.univ : Finset (rQ).shape.Idx) = Finset.univ ∨ ∀ a, (rQ).stride a = 1} :
    (pt fullShare c cc0_scratch2 f : sProp (MT nD τ sig Unit (Elt F) ℕ UU ℕ))
      ⊢ iprop((pt fullShare c cc0_scratch2 w -∗ wp frame (wpE (defs₀ (F := F)) 𝒱₀ (c : Thread nD τ) none) Set.univ (k ⟨⟩) Q)
        -∗ wp frame (wpE (defs₀ (F := F)) 𝒱₀ (c : Thread nD τ) none) Set.univ (.op (.store M8 rQ w Finset.univ hx hm) k) Q) := by
  have h := wp_store (defs := defs₀ (F := F)) (Γ := PendingWaitsCtx.empty) (Q := Q) (k := k) 𝒱₀ (c : Thread nD τ) none Set.univ (m := M8) (r := rQ) (w := w) (Mk := Finset.univ) (hx := hx) (hm := hm) (f := f)
    (Finset.subset_univ _)
  rw [w8] at h
  exact h

/-- A store of the whole of `cc0_scratch3`. -/
theorem store9 (f w : CO F) {hx : (M9.access rO).Stores Finset.univ} {hm : (Finset.univ : Finset (rO).shape.Idx) = Finset.univ ∨ ∀ a, (rO).stride a = 1} :
    (pt fullShare c cc0_scratch3 f : sProp (MT nD τ sig Unit (Elt F) ℕ UU ℕ))
      ⊢ iprop((pt fullShare c cc0_scratch3 w -∗ wp frame (wpE (defs₀ (F := F)) 𝒱₀ (c : Thread nD τ) none) Set.univ (k ⟨⟩) Q)
        -∗ wp frame (wpE (defs₀ (F := F)) 𝒱₀ (c : Thread nD τ) none) Set.univ (.op (.store M9 rO w Finset.univ hx hm) k) Q) := by
  have h := wp_store (defs := defs₀ (F := F)) (Γ := PendingWaitsCtx.empty) (Q := Q) (k := k) 𝒱₀ (c : Thread nD τ) none Set.univ (m := M9) (r := rO) (w := w) (Mk := Finset.univ) (hx := hx) (hm := hm) (f := f)
    (Finset.subset_univ _)
  rw [w9] at h
  exact h

/-- A store of the whole of `cc0_scratch4`. -/
theorem store10 (f w : CO F) {hx : (M10.access rO).Stores Finset.univ} {hm : (Finset.univ : Finset (rO).shape.Idx) = Finset.univ ∨ ∀ a, (rO).stride a = 1} :
    (pt fullShare c cc0_scratch4 f : sProp (MT nD τ sig Unit (Elt F) ℕ UU ℕ))
      ⊢ iprop((pt fullShare c cc0_scratch4 w -∗ wp frame (wpE (defs₀ (F := F)) 𝒱₀ (c : Thread nD τ) none) Set.univ (k ⟨⟩) Q)
        -∗ wp frame (wpE (defs₀ (F := F)) 𝒱₀ (c : Thread nD τ) none) Set.univ (.op (.store M10 rO w Finset.univ hx hm) k) Q) := by
  have h := wp_store (defs := defs₀ (F := F)) (Γ := PendingWaitsCtx.empty) (Q := Q) (k := k) 𝒱₀ (c : Thread nD τ) none Set.univ (m := M10) (r := rO) (w := w) (Mk := Finset.univ) (hx := hx) (hm := hm) (f := f)
    (Finset.subset_univ _)
  rw [w10] at h
  exact h

end Steps

end Cert.KernelIdealProof

end
-- ==== Proof.KernelIdeal.Parts1.lean ====
/-
  The parts of the body, one after another.
-/
module

public import proofs.«01_k».proof.Proof.KernelIdeal.Waits

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F)) (K : GSem nD τ sig → ℕ)

/-- Part 1 of the body: what it reads, and what it leaves. -/
theorem part1 (c : Dev nD)  (Q : _ → sProp (MT nD τ sig Unit (Elt F) ℕ UU ℕ)) :
    iprop(ctx W K ∗ ownReached c ∗ reached ER (barCell (lf c)) 0 ∗ reached ER (barCell (rt c)) 0 ∗ debt c 14 ∗ dutyTok ER (barCell (lf c)) 0 true ∗ dutyTok ER (barCell (rt c)) 0 false ∗ barL c ∗ barR c ∗ cred (tallyAt (barCell c) () 2) ∗ atPos ER (barCell c) 0 ∅ 0 ∗ pt fullShare c cc0_stg1_0 (wqV W c) ∗ pt fullShare c main_v16 (kV W c) ∗ pt fullShare c main_v18 (vV W c) ∗ any c cc0_scratch1 ∗ any c cc0_scratch17 ∗ any c cc0_scratch18 ∗ tok c 0 ∗ tok c 1)
      ⊢ iprop((∀ r, (⌜r.1 = c ∧ r.2.2.2.2.2 = (u27 W c)⌝ ∗ ownReached (lf c) ∗ ownReached (rt c) ∗ debt c 12 ∗ atPos ER (barCell c) (0 + 1) ∅ 0 ∗ pt fullShare c cc0_stg1_0 (wqV W c) ∗ pt fullShare c cc0_scratch1 (qA W c) ∗ any (rt c) cc0_scratch5 ∗ any (rt c) cc0_scratch6 ∗ any (rt c) cc0_scratch7 ∗ any (rt c) cc0_scratch8 ∗ any (lf c) cc0_scratch11 ∗ any (lf c) cc0_scratch12 ∗ any (lf c) cc0_scratch9 ∗ any (lf c) cc0_scratch10 ∗ any (rt c) cc0_scratch13 ∗ any (rt c) cc0_scratch14 ∗ any (lf c) cc0_scratch15 ∗ any (lf c) cc0_scratch16 ∗ cr c 0 ∗ cr c 1) -∗ Q r)
        -∗ wp frame (wpE (defs₀ (F := F)) 𝒱₀ (c : Thread nD τ) none) Set.univ (k0_part1 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 ) Q) := by
  rw [k0_part1_eq_skeleton]; unfold k0_part1_skel
  simp only [semSignalWord, semWaitWord, Prog.lift, Prog.bind_op, Prog.bind_ret, Prog.pure_eq_ret, Prog.bind_assoc, wp_deviceId]
  iintro ⟨#HC, #OC, #RL, #RR, HO, TL, TR, BL, BR, CB, AB, H1, H2, H3, H7, H23, H24, T0, T1⟩ Hk
  iapply (copy0 W K c) $$ [H2 H23 T0]
  · isplitr; · iexact HC
    isplitr; · iexact OC
    isplitl [H2]; · iexact H2
    isplitl [H23]; · iexact H23
    iexact T0
  iintro C0
  iapply (copy1 W K c) $$ [H3 H24 T1]
  · isplitr; · iexact HC
    isplitr; · iexact OC
    isplitl [H3]; · iexact H3
    isplitl [H24]; · iexact H24
    iexact T1
  iintro C1
  iapply (sig0 W K c (dev1_eq c)) $$ [HO TL BR]
  · isplitr; · iexact HC
    isplitl [HO]; · iexact HO
    isplitl [TL]; · iexact TL
    isplitr; · iexact RL
    iexact BR
  iintro HO
  iapply (sig1 W K c (dev2_eq c)) $$ [HO TR BL]
  · isplitr; · iexact HC
    isplitl [HO]; · iexact HO
    isplitl [TR]; · iexact TR
    isplitr; · iexact RR
    iexact BL
  iintro HO
  iapply (wp_bar W K c 12 (by decide) (by decide)) $$ [HO CB AB]
  · isplitr; · iexact HC
    isplitl [HO]; · iexact HO
    isplitl [CB]; · iexact CB
    iexact AB
  iintro ⟨HO, AB, HL, HR⟩
  unfold barR barL
  icases HR with ⟨D0, D1, D2, D3, D8, D9, #OR⟩
  icases HL with ⟨D6, D7, D4, D5, D10, D11, #OL⟩
  iapply (wp_load 𝒱₀ (c : Thread nD τ) none Set.univ (m := M1) (Finset.subset_univ _)) $$ H1; iintro H1
  ihave H7 := (any_elim c cc0_scratch1) $$ H7; icases H7 with ⟨%f7, H7⟩
  iapply (wp_load 𝒱₀ (c : Thread nD τ) none Set.univ (m := M7) (Finset.subset_univ _)) $$ H7; iintro H7
  iapply (store7 c f7 (qA W c)) $$ H7; iintro H7
  iapply (wp_load 𝒱₀ (c : Thread nD τ) none Set.univ (m := M1) (Finset.subset_univ _)) $$ H1; iintro H1
  rw [wp_ret]; imodintro
  iapply Hk
  isplitr
  · ipureintro; exact ⟨rfl, rfl⟩
  isplitr; · iexact OL
  isplitr; · iexact OR
  isplitl [HO]; · iexact HO
  isplitl [AB]; · iexact AB
  isplitl [H1]; · iexact H1
  isplitl [H7]; · iexact H7
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [C0]; · iexact C0
  iexact C1

/-- Part 2 of the body: what it reads, and what it leaves. -/
theorem part2 (c : Dev nD) (v4 : BitVec 32) (Q : _ → sProp (MT nD τ sig Unit (Elt F) ℕ UU ℕ)) :
    iprop(ctx W K ∗ ownReached c ∗ ownReached (rt c) ∗ debt c 12 ∗ pt fullShare c cc0_stg2_0 (woV W c) ∗ pt fullShare c cc0_scratch1 (qA W c) ∗ any c cc0_scratch2 ∗ any c cc0_scratch3 ∗ any c cc0_scratch4 ∗ any (rt c) cc0_scratch5 ∗ any (rt c) cc0_scratch6 ∗ tok c 2 ∗ tok c 3 ∗ tok (rt c) 14 ∗ tok (rt c) 15)
      ⊢ iprop((∀ r, (debt c 10 ∗ pt fullShare c cc0_stg2_0 (woV W c) ∗ pt hr c cc0_scratch1 (qA W c) ∗ pt fullShare c cc0_scratch2 (qB W c) ∗ pt hr c cc0_scratch3 (oA W c) ∗ pt fullShare c cc0_scratch4 (oB W c) ∗ cr c 2 ∗ cr c 3) -∗ Q r)
        -∗ wp frame (wpE (defs₀ (F := F)) 𝒱₀ (c : Thread nD τ) none) Set.univ (k0_part2 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (u27 W c)) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HC, #OC, #OR, HO, H4, H7, H8, H9, H10, D0, D1, T2, T3, R0, R1⟩ Hk
  ihave H8 := (any_elim c cc0_scratch2) $$ H8; icases H8 with ⟨%f8, H8⟩
  iapply (wp_load 𝒱₀ (c : Thread nD τ) none Set.univ (m := M8) (Finset.subset_univ _)) $$ H8; iintro H8
  iapply (store8 c f8 (qB W c)) $$ H8; iintro H8
  iapply (wp_load 𝒱₀ (c : Thread nD τ) none Set.univ (m := M4) (Finset.subset_univ _)) $$ H4; iintro H4
  ihave H9 := (any_elim c cc0_scratch3) $$ H9; icases H9 with ⟨%f9, H9⟩
  iapply (wp_load 𝒱₀ (c : Thread nD τ) none Set.univ (m := M9) (Finset.subset_univ _)) $$ H9; iintro H9
  iapply (store9 c f9 (oA W c)) $$ H9; iintro H9
  iapply (wp_load 𝒱₀ (c : Thread nD τ) none Set.univ (m := M4) (Finset.subset_univ _)) $$ H4; iintro H4
  ihave H10 := (any_elim c cc0_scratch4) $$ H10; icases H10 with ⟨%f10, H10⟩
  iapply (wp_load 𝒱₀ (c : Thread nD τ) none Set.univ (m := M10) (Finset.subset_univ _)) $$ H10; iintro H10
  iapply (store10 c f10 (oB W c)) $$ H10; iintro H10
  ihave HS := (split fullShare c cc0_scratch1 (qA W c)) $$ H7; icases HS with ⟨HS, H7⟩
  iapply (send0 W K c (dev3_eq c)) $$ [HS D0 HO T2 R0]
  · isplitr; · iexact HC
    isplitr; · iexact OC
    isplitr; · iexact OR
    isplitl [HS]; · iexact HS
    isplitl [D0]; · iexact D0
    isplitl [HO]; · iexact HO
    isplitl [T2]; · iexact T2
    iexact R0
  iintro ⟨HO, C2⟩
  ihave HS := (split fullShare c cc0_scratch3 (oA W c)) $$ H9; icases HS with ⟨HS, H9⟩
  iapply (send1 W K c (dev4_eq c)) $$ [HS D1 HO T3 R1]
  · isplitr; · iexact HC
    isplitr; · iexact OC
    isplitr; · iexact OR
    isplitl [HS]; · iexact HS
    isplitl [D1]; · iexact D1
    isplitl [HO]; · iexact HO
    isplitl [T3]; · iexact T3
    iexact R1
  iintro ⟨HO, C3⟩
  rw [wp_ret]; imodintro
  iapply Hk
  isplitl [HO]; · iexact HO
  isplitl [H4]; · iexact H4
  isplitl [H7]; · iexact H7
  isplitl [H8]; · iexact H8
  isplitl [H9]; · iexact H9
  isplitl [H10]; · iexact H10
  isplitl [C2]; · iexact C2
  iexact C3

/-- Part 3 of the body: what it reads, and what it leaves. -/
theorem part3 (c : Dev nD) (v4 : BitVec 32) (v7 : BitVec 32) (Q : _ → sProp (MT nD τ sig Unit (Elt F) ℕ UU ℕ)) :
    iprop(ctx W K ∗ ownReached c ∗ ownReached (lf c) ∗ ownReached (rt c) ∗ debt c 10 ∗ pt fullShare c cc0_stg0_0 (xV W c) ∗ pt hr c cc0_scratch1 (qA W c) ∗ pt fullShare c cc0_scratch2 (qB W c) ∗ pt hr c cc0_scratch3 (oA W c) ∗ pt fullShare c cc0_scratch4 (oB W c) ∗ any (rt c) cc0_scratch7 ∗ any (rt c) cc0_scratch8 ∗ any (lf c) cc0_scratch11 ∗ any (lf c) cc0_scratch12 ∗ any (lf c) cc0_scratch9 ∗ any (lf c) cc0_scratch10 ∗ tok c 4 ∗ tok c 5 ∗ tok c 6 ∗ tok c 7 ∗ tok c 8 ∗ tok c 9 ∗ tok (rt c) 16 ∗ tok (rt c) 17 ∗ tok (lf c) 18 ∗ tok (lf c) 19 ∗ tok (lf c) 20 ∗ tok (lf c) 21)
      ⊢ iprop((∀ r, (⌜r = (M0.view.readAt (Elt F) (Rect.unit (s := S2x128x512) ![0, 0, 0] S2x128x512.size inb_S2x128x512_S2x128x512_0_0_0).toLoadRect (xV W c))⌝ ∗ debt c 4 ∗ pt fullShare c cc0_stg0_0 (xV W c) ∗ pt h2 c cc0_scratch1 (qA W c) ∗ pt h2 c cc0_scratch2 (qB W c) ∗ pt h2 c cc0_scratch3 (oA W c) ∗ pt h2 c cc0_scratch4 (oB W c) ∗ cr c 4 ∗ cr c 5 ∗ cr c 6 ∗ cr c 7 ∗ cr c 8 ∗ cr c 9) -∗ Q r)
        -∗ wp frame (wpE (defs₀ (F := F)) 𝒱₀ (c : Thread nD τ) none) Set.univ (k0_part3 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 v7) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HC, #OC, #OL, #OR, HO, H0, H7, H8, H9, H10, D2, D3, D4, D5, D6, D7, T4, T5, T6, T7, T8, T9, R2, R3, R4, R5, R6, R7⟩ Hk
  ihave HS := (split fullShare c cc0_scratch2 (qB W c)) $$ H8; icases HS with ⟨HS, H8⟩
  iapply (send2 W K c (dev5_eq c)) $$ [HS D2 HO T4 R2]
  · isplitr; · iexact HC
    isplitr; · iexact OC
    isplitr; · iexact OR
    isplitl [HS]; · iexact HS
    isplitl [D2]; · iexact D2
    isplitl [HO]; · iexact HO
    isplitl [T4]; · iexact T4
    iexact R2
  iintro ⟨HO, C4⟩
  ihave HS := (split fullShare c cc0_scratch4 (oB W c)) $$ H10; icases HS with ⟨HS, H10⟩
  iapply (send3 W K c (dev6_eq c)) $$ [HS D3 HO T5 R3]
  · isplitr; · iexact HC
    isplitr; · iexact OC
    isplitr; · iexact OR
    isplitl [HS]; · iexact HS
    isplitl [D3]; · iexact D3
    isplitl [HO]; · iexact HO
    isplitl [T5]; · iexact T5
    iexact R3
  iintro ⟨HO, C5⟩
  ihave HS := (split hr c cc0_scratch2 (qB W c)) $$ H8; icases HS with ⟨HS, H8⟩
  iapply (send4 W K c (dev7_eq c)) $$ [HS D4 HO T6 R4]
  · isplitr; · iexact HC
    isplitr; · iexact OC
    isplitr; · iexact OL
    isplitl [HS]; · iexact HS
    isplitl [D4]; · iexact D4
    isplitl [HO]; · iexact HO
    isplitl [T6]; · iexact T6
    iexact R4
  iintro ⟨HO, C6⟩
  ihave HS := (split hr c cc0_scratch4 (oB W c)) $$ H10; icases HS with ⟨HS, H10⟩
  iapply (send5 W K c (dev8_eq c)) $$ [HS D5 HO T7 R5]
  · isplitr; · iexact HC
    isplitr; · iexact OC
    isplitr; · iexact OL
    isplitl [HS]; · iexact HS
    isplitl [D5]; · iexact D5
    isplitl [HO]; · iexact HO
    isplitl [T7]; · iexact T7
    iexact R5
  iintro ⟨HO, C7⟩
  ihave HS := (split hr c cc0_scratch1 (qA W c)) $$ H7; icases HS with ⟨HS, H7⟩
  iapply (send6 W K c (dev9_eq c)) $$ [HS D6 HO T8 R6]
  · isplitr; · iexact HC
    isplitr; · iexact OC
    isplitr; · iexact OL
    isplitl [HS]; · iexact HS
    isplitl [D6]; · iexact D6
    isplitl [HO]; · iexact HO
    isplitl [T8]; · iexact T8
    iexact R6
  iintro ⟨HO, C8⟩
  ihave HS := (split hr c cc0_scratch3 (oA W c)) $$ H9; icases HS with ⟨HS, H9⟩
  iapply (send7 W K c (dev10_eq c)) $$ [HS D7 HO T9 R7]
  · isplitr; · iexact HC
    isplitr; · iexact OC
    isplitr; · iexact OL
    isplitl [HS]; · iexact HS
    isplitl [D7]; · iexact D7
    isplitl [HO]; · iexact HO
    isplitl [T9]; · iexact T9
    iexact R7
  iintro ⟨HO, C9⟩
  iapply (wp_load 𝒱₀ (c : Thread nD τ) none Set.univ (m := M0) (Finset.subset_univ _)) $$ H0; iintro H0
  rw [wp_ret]; imodintro
  iapply Hk
  isplitr
  · ipureintro; exact rfl
  isplitl [HO]; · iexact HO
  isplitl [H0]; · iexact H0
  isplitl [H7]; · iexact H7
  isplitl [H8]; · iexact H8
  isplitl [H9]; · iexact H9
  isplitl [H10]; · iexact H10
  isplitl [C4]; · iexact C4
  isplitl [C5]; · iexact C5
  isplitl [C6]; · iexact C6
  isplitl [C7]; · iexact C7
  isplitl [C8]; · iexact C8
  iexact C9

/-- Part 4 of the body: what it reads, and what it leaves. -/
theorem part4 (c : Dev nD) (v2 : BitVec 32) (Q : _ → sProp (MT nD τ sig Unit (Elt F) ℕ UU ℕ)) :
    iprop(ctx W K ∗ debt c 4 ∗ any c cc0_scratch0 ∗ pt h2 c cc0_scratch1 (qA W c) ∗ pt h2 c cc0_scratch3 (oA W c) ∗ cr c 0 ∗ cr c 1 ∗ at0 c 0 ∗ at0 c 1)
      ⊢ iprop((∀ r, (⌜r.1 = (qA W c) ∧ r.2.1 = (oA W c) ∧ r.2.2.1 = (u106 W c) ∧ r.2.2.2.1 = (u117 W c) ∧ r.2.2.2.2.1 = (u121 W c) ∧ r.2.2.2.2.2 = (u123 W c)⌝ ∗ debt c 4 ∗ pt fullShare c main_v16 (kV W c) ∗ pt fullShare c main_v18 (vV W c) ∗ pt fullShare c cc0_scratch0 (x16 W c) ∗ pt h2 c cc0_scratch1 (qA W c) ∗ pt h2 c cc0_scratch3 (oA W c) ∗ pt fullShare c cc0_scratch17 (kV W c) ∗ pt fullShare c cc0_scratch18 (vV W c) ∗ at1 c 0 ∗ at1 c 1) -∗ Q r)
        -∗ wp frame (wpE (defs₀ (F := F)) 𝒱₀ (c : Thread nD τ) none) Set.univ (k0_part4 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (M0.view.readAt (Elt F) (Rect.unit (s := S2x128x512) ![0, 0, 0] S2x128x512.size inb_S2x128x512_S2x128x512_0_0_0).toLoadRect (xV W c))) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HC, HO, H6, H7, H9, C0, C1, A0, A1⟩ Hk
  ihave H6 := (any_elim c cc0_scratch0) $$ H6; icases H6 with ⟨%f6, H6⟩
  iapply (wp_load 𝒱₀ (c : Thread nD τ) none Set.univ (m := M6) (Finset.subset_univ _)) $$ H6; iintro H6
  iapply (store6 c f6 (x16 W c)) $$ H6; iintro H6
  iapply (wait0 W K c) $$ [HO C0 A0]
  · isplitr; · iexact HC
    isplitl [HO]; · iexact HO
    isplitl [C0]; · iexact C0
    iexact A0
  iintro ⟨HO, A0, HP⟩
  icases HP with ⟨H23, H2⟩
  iapply (wait1 W K c) $$ [HO C1 A1]
  · isplitr; · iexact HC
    isplitl [HO]; · iexact HO
    isplitl [C1]; · iexact C1
    iexact A1
  iintro ⟨HO, A1, HP⟩
  icases HP with ⟨H24, H3⟩
  iapply (wp_load 𝒱₀ (c : Thread nD τ) none Set.univ (m := M7) (Finset.subset_univ _)) $$ H7; iintro H7
  rw [r7]
  iapply (wp_load 𝒱₀ (c : Thread nD τ) none Set.univ (m := M9) (Finset.subset_univ _)) $$ H9; iintro H9
  rw [r9]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl, rfl, rfl⟩
  isplitl [HO]; · iexact HO
  isplitl [H2]; · iexact H2
  isplitl [H3]; · iexact H3
  isplitl [H6]; · iexact H6
  isplitl [H7]; · iexact H7
  isplitl [H9]; · iexact H9
  isplitl [H23]; · iexact H23
  isplitl [H24]; · iexact H24
  isplitl [A0]; · iexact A0
  iexact A1

/-- Part 5 of the body: what it reads, and what it leaves. -/
theorem part5 (c : Dev nD) (v2 : BitVec 32) (Q : _ → sProp (MT nD τ sig Unit (Elt F) ℕ UU ℕ)) :
    iprop(any c cc0_stg3_0 ∗ pt fullShare c cc0_scratch17 (kV W c) ∗ pt fullShare c cc0_scratch18 (vV W c))
      ⊢ iprop((∀ r, (⌜r = (u161 W c)⌝ ∗ any c cc0_stg3_0 ∗ pt fullShare c cc0_scratch17 (kV W c) ∗ pt fullShare c cc0_scratch18 (vV W c)) -∗ Q r)
        -∗ wp frame (wpE (defs₀ (F := F)) 𝒱₀ (c : Thread nD τ) none) Set.univ (k0_part5 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (oA W c) (u106 W c) (u117 W c) (u121 W c) (u123 W c)) Q) := by
  rw [k0_part5_eq_skeleton]; unfold k0_part5_skel
  simp only [semSignalWord, semWaitWord, Prog.lift, Prog.bind_op, Prog.bind_ret, Prog.pure_eq_ret, Prog.bind_assoc, wp_deviceId]
  iintro ⟨H5, H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  ihave H5 := (any_elim c cc0_stg3_0) $$ H5; icases H5 with ⟨%f5, H5⟩
  obtain ⟨a5, b5, rfl⟩ := eq_join f5
  iapply (wp_load 𝒱₀ (c : Thread nD τ) none Set.univ (m := M5) (Finset.subset_univ _)) $$ H5; iintro H5
  rw [wp_ret]; imodintro
  iapply Hk
  isplitr
  · ipureintro; exact rfl
  isplitl [H5]; · iapply (any_intro c cc0_stg3_0 _); iexact H5
  isplitl [H23]; · iexact H23
  iexact H24

/-- Part 6 of the body: what it reads, and what it leaves. -/
theorem part6 (c : Dev nD) (v2 : BitVec 32) (Q : _ → sProp (MT nD τ sig Unit (Elt F) ℕ UU ℕ)) :
    iprop(any c cc0_stg3_0 ∗ pt fullShare c cc0_scratch0 (x16 W c) ∗ pt fullShare c cc0_scratch17 (kV W c) ∗ pt fullShare c cc0_scratch18 (vV W c))
      ⊢ iprop((∀ r, (⌜r.1 = (u168 W c) ∧ r.2.1 = (u194 W c)⌝ ∗ (∃ b : CB F, pt fullShare c cc0_stg3_0 (joinB (s12 W c) b)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part6 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (qA W c) (u161 W c)) Q) := by
  rw [k0_part6_eq_skeleton]; unfold k0_part6_skel
  simp only [semSignalWord, semWaitWord, Prog.lift, Prog.bind_op, Prog.bind_ret, Prog.pure_eq_ret, Prog.bind_assoc, wp_deviceId]
  iintro ⟨H5, H6, H23, H24⟩ Hk
  ihave H5 := (any_elim c cc0_stg3_0) $$ H5; icases H5 with ⟨%f5, H5⟩
  obtain ⟨a5, b5, rfl⟩ := eq_join f5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl⟩
  isplitl [H5]; · iexists _; iexact H5
  isplitl [H6]; · iexact H6
  isplitl [H23]; · iexact H23
  iexact H24

/-- Part 7 of the body: what it reads, and what it leaves. -/
theorem part7 (c : Dev nD) (v2 : BitVec 32) (v197 : BitVec 32) (Q : _ → sProp (MT nD τ sig Unit (Elt F) ℕ UU ℕ)) :
    iprop((∃ b : CB F, pt fullShare c cc0_stg3_0 (joinB (s12 W c) b)) ∗ pt fullShare c cc0_scratch0 (x16 W c) ∗ pt h2 c cc0_scratch2 (qB W c) ∗ pt h2 c cc0_scratch4 (oB W c) ∗ pt fullShare c cc0_scratch17 (kV W c) ∗ pt fullShare c cc0_scratch18 (vV W c))
      ⊢ iprop((∀ r, (⌜r.1 = (qB W c) ∧ r.2.1 = (oB W c) ∧ r.2.2.1 = (u232 W c)⌝ ∗ pt fullShare c cc0_stg3_0 (joinB (s12 W c) (s15 W c)) ∗ pt fullShare c cc0_scratch0 (x16 W c) ∗ pt h2 c cc0_scratch2 (qB W c) ∗ pt h2 c cc0_scratch4 (oB W c) ∗ pt fullShare c cc0_scratch17 (kV W c) ∗ pt fullShare c cc0_scratch18 (vV W c)) -∗ Q r)
        -∗ wp frame (wpE (defs₀ (F := F)) 𝒱₀ (c : Thread nD τ) none) Set.univ (k0_part7 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (oA W c) (u168 W c) (u194 W c) v197) Q) := by
  rw [k0_part7_eq_skeleton]; unfold k0_part7_skel
  simp only [semSignalWord, semWaitWord, Prog.lift, Prog.bind_op, Prog.bind_ret, Prog.pure_eq_ret, Prog.bind_assoc, wp_deviceId]
  iintro ⟨H5, H6, H8, H10, H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  icases H5 with ⟨%b5, H5⟩
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wp_load 𝒱₀ (c : Thread nD τ) none Set.univ (m := M8) (Finset.subset_univ _)) $$ H8; iintro H8
  rw [r8]
  iapply (wp_load 𝒱₀ (c : Thread nD τ) none Set.univ (m := M10) (Finset.subset_univ _)) $$ H10; iintro H10
  rw [r10]
  iapply (wp_load 𝒱₀ (c : Thread nD τ) none Set.univ (m := M6) (Finset.subset_univ _)) $$ H6; iintro H6
  rw [wp_ret]; imodintro
  iapply Hk
  isplitr
  · ipureintro; exact ⟨rfl, rfl, rfl⟩
  isplitl [H5]; · iexact H5
  isplitl [H6]; · iexact H6
  isplitl [H8]; · iexact H8
  isplitl [H10]; · iexact H10
  isplitl [H23]; · iexact H23
  iexact H24

/-- Part 8 of the body: what it reads, and what it leaves. -/
theorem part8 (c : Dev nD) (v2 : BitVec 32) (v234 : BitVec 32) (c0_i32_148 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u258 W c) ∧ r.2.1 = (u269 W c) ∧ r.2.2.1 = (u271 W c) ∧ r.2.2.2 = (k0_pay20 (F := F))⌝ ∗ pt fullShare c cc0_scratch17 (kV W c) ∗ pt fullShare c cc0_scratch18 (vV W c)) -∗ Q r)
        -∗ wp frame (wpE (defs₀ (F := F)) 𝒱₀ (c : Thread nD τ) none) Set.univ (k0_part8 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (u232 W c) v234 c0_i32_148) Q) := by
  rw [k0_part8_eq_skeleton]; unfold k0_part8_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl⟩
  isplitl [H23]; · iexact H23
  iexact H24

/-- Part 9 of the body: what it reads, and what it leaves. -/
theorem part9 (c : Dev nD) (v2 : BitVec 32) (Q : _ → sProp (MT nD τ sig Unit (Elt F) ℕ UU ℕ)) :
    iprop(pt fullShare c cc0_stg3_0 (joinB (s12 W c) (s15 W c)) ∗ pt fullShare c cc0_scratch0 (x16 W c) ∗ pt fullShare c cc0_scratch17 (kV W c) ∗ pt fullShare c cc0_scratch18 (vV W c))
      ⊢ iprop((∀ r, (⌜r.1 = (u297 W c) ∧ r.2.1 = (u304 W c) ∧ r.2.2 = (u308 W c)⌝ ∗ pt fullShare c cc0_stg3_0 (joinB (s21 W c) (s15 W c)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part9 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (qB W c) (oB W c) (u258 W c) (u269 W c) (u271 W c) (k0_pay20 (F := F))) Q) := by
  rw [k0_part9_eq_skeleton]; unfold k0_part9_skel
  simp only [semSignalWord, semWaitWord, Prog.lift, Prog.bind_op, Prog.bind_ret, Prog.pure_eq_ret, Prog.bind_assoc, wp_deviceId]
  iintro ⟨H5, H6, H23, H24⟩ Hk
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl⟩
  isplitl [H5]; · iexact H5
  isplitl [H6]; · iexact H6
  isplitl [H23]; · iexact H23
  iexact H24

/-- Part 10 of the body: what it reads, and what it leaves. -/
theorem part10 (c : Dev nD) (v2 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u323 W c) ∧ r.2 = (u349 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part10 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v2 (u297 W c) (u304 W c) (u308 W c)) Q) := by
  rw [k0_part10_eq_skeleton]; unfold k0_part10_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl⟩
  isplitl [H23]; · iexact H23
  iexact H24

/-- Part 11 of the body: what it reads, and what it leaves. -/
theorem part11 (c : Dev nD) (v4 : BitVec 32) (v7 : BitVec 32) (Q : _ → sProp (MT nD τ sig Unit (Elt F) ℕ UU ℕ)) :
    iprop(ctx W K ∗ debt c 4 ∗ pt fullShare c cc0_stg3_0 (joinB (s21 W c) (s15 W c)) ∗ cr c 14 ∗ cr c 15 ∗ cr c 18 ∗ cr c 19 ∗ at0 c 14 ∗ at0 c 15 ∗ at0 c 18 ∗ at0 c 19)
      ⊢ iprop((∀ r, (debt c 4 ∗ pt fullShare c cc0_stg3_0 (joinB (s21 W c) (s27 W c)) ∗ pt fullShare c cc0_scratch5 (qA W (lf c)) ∗ pt fullShare c cc0_scratch6 (oA W (lf c)) ∗ pt fullShare c cc0_scratch11 (qB W (rt c)) ∗ pt fullShare c cc0_scratch12 (oB W (rt c)) ∗ at1 c 14 ∗ at1 c 15 ∗ at1 c 18 ∗ at1 c 19) -∗ Q r)
        -∗ wp frame (wpE (defs₀ (F := F)) 𝒱₀ (c : Thread nD τ) none) Set.univ (k0_part11 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 v4 v7 (oB W c) (u323 W c) (u349 W c)) Q) := by
  rw [k0_part11_eq_skeleton]; unfold k0_part11_skel
  simp only [semSignalWord, semWaitWord, Prog.lift, Prog.bind_op, Prog.bind_ret, Prog.pure_eq_ret, Prog.bind_assoc, wp_deviceId]
  iintro ⟨#HC, HO, H5, C14, C15, C18, C19, A14, A15, A18, A19⟩ Hk
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait14 W K c) $$ [HO C14 A14]
  · isplitr; · iexact HC
    isplitl [HO]; · iexact HO
    isplitl [C14]; · iexact C14
    iexact A14
  iintro ⟨HO, A14, H11⟩
  iapply (wait15 W K c) $$ [HO C15 A15]
  · isplitr; · iexact HC
    isplitl [HO]; · iexact HO
    isplitl [C15]; · iexact C15
    iexact A15
  iintro ⟨HO, A15, H12⟩
  iapply (wait18 W K c) $$ [HO C18 A18]
  · isplitr; · iexact HC
    isplitl [HO]; · iexact HO
    isplitl [C18]; · iexact C18
    iexact A18
  iintro ⟨HO, A18, H17⟩
  iapply (wait19 W K c) $$ [HO C19 A19]
  · isplitr; · iexact HC
    isplitl [HO]; · iexact HO
    isplitl [C19]; · iexact C19
    iexact A19
  iintro ⟨HO, A19, H18⟩
  rw [wp_ret]; imodintro
  iapply Hk
  isplitl [HO]; · iexact HO
  isplitl [H5]; · iexact H5
  isplitl [H11]; · iexact H11
  isplitl [H12]; · iexact H12
  isplitl [H17]; · iexact H17
  isplitl [H18]; · iexact H18
  isplitl [A14]; · iexact A14
  isplitl [A15]; · iexact A15
  isplitl [A18]; · iexact A18
  iexact A19

/-- Part 12 of the body: what it reads, and what it leaves. -/
theorem part12 (c : Dev nD) (v4 : BitVec 32) (v7 : BitVec 32) (Q : _ → sProp (MT nD τ sig Unit (Elt F) ℕ UU ℕ)) :
    iprop(ctx W K ∗ ownReached c ∗ ownReached (lf c) ∗ ownReached (rt c) ∗ debt c 4 ∗ pt fullShare c cc0_scratch0 (x16 W c) ∗ pt fullShare c cc0_scratch5 (qA W (lf c)) ∗ pt fullShare c cc0_scratch6 (oA W (lf c)) ∗ pt fullShare c cc0_scratch11 (qB W (rt c)) ∗ pt fullShare c cc0_scratch12 (oB W (rt c)) ∗ any (rt c) cc0_scratch13 ∗ any (rt c) cc0_scratch14 ∗ any (lf c) cc0_scratch15 ∗ any (lf c) cc0_scratch16 ∗ tok c 10 ∗ tok c 11 ∗ tok c 12 ∗ tok c 13 ∗ tok (rt c) 22 ∗ tok (rt c) 23 ∗ tok (lf c) 24 ∗ tok (lf c) 25)
      ⊢ iprop((∀ r, (⌜r.1 = (qA W (lf c)) ∧ r.2.1 = (oA W (lf c)) ∧ r.2.2.1 = (u404 W c)⌝ ∗ debt c 0 ∗ pt fullShare c cc0_scratch0 (x16 W c) ∗ pt hr c cc0_scratch5 (qA W (lf c)) ∗ pt hr c cc0_scratch6 (oA W (lf c)) ∗ pt hr c cc0_scratch11 (qB W (rt c)) ∗ pt hr c cc0_scratch12 (oB W (rt c)) ∗ cr c 10 ∗ cr c 11 ∗ cr c 12 ∗ cr c 13) -∗ Q r)
        -∗ wp frame (wpE (defs₀ (F := F)) 𝒱₀ (c : Thread nD τ) none) Set.univ (k0_part12 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 v7) Q) := by
  rw [k0_part12_eq_skeleton]; unfold k0_part12_skel
  simp only [semSignalWord, semWaitWord, Prog.lift, Prog.bind_op, Prog.bind_ret, Prog.pure_eq_ret, Prog.bind_assoc, wp_deviceId]
  iintro ⟨#HC, #OC, #OL, #OR, HO, H6, H11, H12, H17, H18, D8, D9, D10, D11, T10, T11, T12, T13, R8, R9, R10, R11⟩ Hk
  ihave HS := (split fullShare c cc0_scratch5 (qA W (lf c))) $$ H11; icases HS with ⟨HS, H11⟩
  iapply (send8 W K c (dev11_eq c)) $$ [HS D8 HO T10 R8]
  · isplitr; · iexact HC
    isplitr; · iexact OC
    isplitr; · iexact OR
    isplitl [HS]; · iexact HS
    isplitl [D8]; · iexact D8
    isplitl [HO]; · iexact HO
    isplitl [T10]; · iexact T10
    iexact R8
  iintro ⟨HO, C10⟩
  ihave HS := (split fullShare c cc0_scratch6 (oA W (lf c))) $$ H12; icases HS with ⟨HS, H12⟩
  iapply (send9 W K c (dev12_eq c)) $$ [HS D9 HO T11 R9]
  · isplitr; · iexact HC
    isplitr; · iexact OC
    isplitr; · iexact OR
    isplitl [HS]; · iexact HS
    isplitl [D9]; · iexact D9
    isplitl [HO]; · iexact HO
    isplitl [T11]; · iexact T11
    iexact R9
  iintro ⟨HO, C11⟩
  ihave HS := (split fullShare c cc0_scratch11 (qB W (rt c))) $$ H17; icases HS with ⟨HS, H17⟩
  iapply (send10 W K c (dev13_eq c)) $$ [HS D10 HO T12 R10]
  · isplitr; · iexact HC
    isplitr; · iexact OC
    isplitr; · iexact OL
    isplitl [HS]; · iexact HS
    isplitl [D10]; · iexact D10
    isplitl [HO]; · iexact HO
    isplitl [T12]; · iexact T12
    iexact R10
  iintro ⟨HO, C12⟩
  ihave HS := (split fullShare c cc0_scratch12 (oB W (rt c))) $$ H18; icases HS with ⟨HS, H18⟩
  iapply (send11 W K c (dev14_eq c)) $$ [HS D11 HO T13 R11]
  · isplitr; · iexact HC
    isplitr; · iexact OC
    isplitr; · iexact OL
    isplitl [HS]; · iexact HS
    isplitl [D11]; · iexact D11
    isplitl [HO]; · iexact HO
    isplitl [T13]; · iexact T13
    iexact R11
  iintro ⟨HO, C13⟩
  iapply (wp_load 𝒱₀ (c : Thread nD τ) none Set.univ (m := M11) (Finset.subset_univ _)) $$ H11; iintro H11
  rw [r11]
  iapply (wp_load 𝒱₀ (c : Thread nD τ) none Set.univ (m := M12) (Finset.subset_univ _)) $$ H12; iintro H12
  rw [r12]
  iapply (wp_load 𝒱₀ (c : Thread nD τ) none Set.univ (m := M6) (Finset.subset_univ _)) $$ H6; iintro H6
  rw [wp_ret]; imodintro
  iapply Hk
  isplitr
  · ipureintro; exact ⟨rfl, rfl, rfl⟩
  isplitl [HO]; · iexact HO
  isplitl [H6]; · iexact H6
  isplitl [H11]; · iexact H11
  isplitl [H12]; · iexact H12
  isplitl [H17]; · iexact H17
  isplitl [H18]; · iexact H18
  isplitl [C10]; · iexact C10
  isplitl [C11]; · iexact C11
  isplitl [C12]; · iexact C12
  iexact C13

end Cert.KernelIdealProof

end
-- ==== Proof.KernelIdeal.Parts2.lean ====
/-
  The parts of the body, one after another.
-/
module

public import proofs.«01_k».proof.Proof.KernelIdeal.Waits

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F)) (K : GSem nD τ sig → ℕ)

/-- Part 13 of the body: what it reads, and what it leaves. -/
theorem part13 (c : Dev nD) (v7 : BitVec 32) (v407 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u430 W c) ∧ r.2.1 = (u441 W c) ∧ r.2.2.1 = (u445 W c) ∧ r.2.2.2 = (u447 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part13 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (u404 W c) v407) Q) := by
  rw [k0_part13_eq_skeleton]; unfold k0_part13_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl⟩
  isplitl [H23]; · iexact H23
  iexact H24

/-- Part 14 of the body: what it reads, and what it leaves. -/
theorem part14 (c : Dev nD) (v7 : BitVec 32) (Q : _ → sProp (MT nD τ sig Unit (Elt F) ℕ UU ℕ)) :
    iprop(pt fullShare c cc0_stg3_0 (joinB (s21 W c) (s27 W c)) ∗ pt fullShare c cc0_scratch0 (x16 W c) ∗ pt fullShare c cc0_scratch17 (kV W c) ∗ pt fullShare c cc0_scratch18 (vV W c))
      ⊢ iprop((∀ r, (⌜r.1 = (u469 W c) ∧ r.2.1 = (u480 W c) ∧ r.2.2.1 = (u482 W c) ∧ r.2.2.2 = (Scalar.ofBits .f32 0x3E000000#32)⌝ ∗ pt fullShare c cc0_stg3_0 (joinB (s33 W c) (s27 W c)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part14 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (qA W (lf c)) (oA W (lf c)) (u430 W c) (u441 W c) (u445 W c) (u447 W c)) Q) := by
  rw [k0_part14_eq_skeleton]; unfold k0_part14_skel
  simp only [semSignalWord, semWaitWord, Prog.lift, Prog.bind_op, Prog.bind_ret, Prog.pure_eq_ret, Prog.bind_assoc, wp_deviceId]
  iintro ⟨H5, H6, H23, H24⟩ Hk
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl⟩
  isplitl [H5]; · iexact H5
  isplitl [H6]; · iexact H6
  isplitl [H23]; · iexact H23
  iexact H24

/-- Part 15 of the body: what it reads, and what it leaves. -/
theorem part15 (c : Dev nD) (v7 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r = (u524 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part15 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (oA W (lf c)) (u469 W c) (u480 W c) (u482 W c) (Scalar.ofBits .f32 0x3E000000#32)) Q) := by
  rw [k0_part15_eq_skeleton]; unfold k0_part15_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact rfl
  isplitl [H23]; · iexact H23
  iexact H24

/-- Part 16 of the body: what it reads, and what it leaves. -/
theorem part16 (c : Dev nD) (v4 : BitVec 32) (Q : _ → sProp (MT nD τ sig Unit (Elt F) ℕ UU ℕ)) :
    iprop(pt fullShare c cc0_stg3_0 (joinB (s33 W c) (s27 W c)) ∗ pt fullShare c cc0_scratch0 (x16 W c) ∗ pt hr c cc0_scratch11 (qB W (rt c)) ∗ pt hr c cc0_scratch12 (oB W (rt c)) ∗ pt fullShare c cc0_scratch17 (kV W c) ∗ pt fullShare c cc0_scratch18 (vV W c))
      ⊢ iprop((∀ r, (⌜r.1 = (qB W (rt c)) ∧ r.2.1 = (oB W (rt c)) ∧ r.2.2.1 = (u536 W c) ∧ r.2.2.2.1 = (u547 W c) ∧ r.2.2.2.2 = (u556 W c)⌝ ∗ pt fullShare c cc0_stg3_0 (joinB (s33 W c) (s38 W c)) ∗ pt fullShare c cc0_scratch0 (x16 W c) ∗ pt hr c cc0_scratch11 (qB W (rt c)) ∗ pt hr c cc0_scratch12 (oB W (rt c)) ∗ pt fullShare c cc0_scratch17 (kV W c) ∗ pt fullShare c cc0_scratch18 (vV W c)) -∗ Q r)
        -∗ wp frame (wpE (defs₀ (F := F)) 𝒱₀ (c : Thread nD τ) none) Set.univ (k0_part16 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (u524 W c)) Q) := by
  rw [k0_part16_eq_skeleton]; unfold k0_part16_skel
  simp only [semSignalWord, semWaitWord, Prog.lift, Prog.bind_op, Prog.bind_ret, Prog.pure_eq_ret, Prog.bind_assoc, wp_deviceId]
  iintro ⟨H5, H6, H17, H18, H23, H24⟩ Hk
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wp_load 𝒱₀ (c : Thread nD τ) none Set.univ (m := M17) (Finset.subset_univ _)) $$ H17; iintro H17
  rw [r17]
  iapply (wp_load 𝒱₀ (c : Thread nD τ) none Set.univ (m := M18) (Finset.subset_univ _)) $$ H18; iintro H18
  rw [r18]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl, rfl⟩
  isplitl [H5]; · iexact H5
  isplitl [H6]; · iexact H6
  isplitl [H17]; · iexact H17
  isplitl [H18]; · iexact H18
  isplitl [H23]; · iexact H23
  iexact H24

/-- Part 17 of the body: what it reads, and what it leaves. -/
theorem part17 (c : Dev nD) (v4 : BitVec 32) (Q : _ → sProp (MT nD τ sig Unit (Elt F) ℕ UU ℕ)) :
    iprop(pt fullShare c cc0_stg3_0 (joinB (s33 W c) (s38 W c)) ∗ pt fullShare c cc0_scratch17 (kV W c) ∗ pt fullShare c cc0_scratch18 (vV W c))
      ⊢ iprop((∀ r, (⌜r = (u594 W c)⌝ ∗ pt fullShare c cc0_stg3_0 (joinB (s33 W c) (s38 W c)) ∗ pt fullShare c cc0_scratch17 (kV W c) ∗ pt fullShare c cc0_scratch18 (vV W c)) -∗ Q r)
        -∗ wp frame (wpE (defs₀ (F := F)) 𝒱₀ (c : Thread nD τ) none) Set.univ (k0_part17 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (oB W (rt c)) (u536 W c) (u547 W c) (u556 W c)) Q) := by
  rw [k0_part17_eq_skeleton]; unfold k0_part17_skel
  simp only [semSignalWord, semWaitWord, Prog.lift, Prog.bind_op, Prog.bind_ret, Prog.pure_eq_ret, Prog.bind_assoc, wp_deviceId]
  iintro ⟨H5, H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get0]
  rw [wp_ret]; imodintro
  iapply Hk
  isplitr
  · ipureintro; exact rfl
  isplitl [H5]; · iexact H5
  isplitl [H23]; · iexact H23
  iexact H24

/-- Part 18 of the body: what it reads, and what it leaves. -/
theorem part18 (c : Dev nD) (v4 : BitVec 32) (Q : _ → sProp (MT nD τ sig Unit (Elt F) ℕ UU ℕ)) :
    iprop(pt fullShare c cc0_stg3_0 (joinB (s33 W c) (s38 W c)) ∗ pt fullShare c cc0_scratch0 (x16 W c) ∗ pt fullShare c cc0_scratch17 (kV W c) ∗ pt fullShare c cc0_scratch18 (vV W c))
      ⊢ iprop((∀ r, (⌜r.1 = (u601 W c) ∧ r.2.1 = (u627 W c)⌝ ∗ pt fullShare c cc0_stg3_0 (joinB (s43 W c) (s38 W c)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part18 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (qB W (rt c)) (u594 W c)) Q) := by
  rw [k0_part18_eq_skeleton]; unfold k0_part18_skel
  simp only [semSignalWord, semWaitWord, Prog.lift, Prog.bind_op, Prog.bind_ret, Prog.pure_eq_ret, Prog.bind_assoc, wp_deviceId]
  iintro ⟨H5, H6, H23, H24⟩ Hk
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl⟩
  isplitl [H5]; · iexact H5
  isplitl [H6]; · iexact H6
  isplitl [H23]; · iexact H23
  iexact H24

/-- Part 19 of the body: what it reads, and what it leaves. -/
theorem part19 (c : Dev nD) (v4 : BitVec 32) (v630 : BitVec 32) (Q : _ → sProp (MT nD τ sig Unit (Elt F) ℕ UU ℕ)) :
    iprop(ctx W K ∗ debt c 0 ∗ pt fullShare c cc0_stg3_0 (joinB (s43 W c) (s38 W c)) ∗ pt fullShare c cc0_scratch17 (kV W c) ∗ pt fullShare c cc0_scratch18 (vV W c) ∗ cr c 16 ∗ at0 c 16)
      ⊢ iprop((∀ r, (debt c 0 ∗ pt fullShare c cc0_stg3_0 (joinB (s43 W c) (s46 W c)) ∗ pt fullShare c cc0_scratch7 (qB W (lf c)) ∗ pt fullShare c cc0_scratch17 (kV W c) ∗ pt fullShare c cc0_scratch18 (vV W c) ∗ at1 c 16) -∗ Q r)
        -∗ wp frame (wpE (defs₀ (F := F)) 𝒱₀ (c : Thread nD τ) none) Set.univ (k0_part19 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (oB W (rt c)) (u601 W c) (u627 W c) v630) Q) := by
  rw [k0_part19_eq_skeleton]; unfold k0_part19_skel
  simp only [semSignalWord, semWaitWord, Prog.lift, Prog.bind_op, Prog.bind_ret, Prog.pure_eq_ret, Prog.bind_assoc, wp_deviceId]
  iintro ⟨#HC, HO, H5, H23, H24, C16, A16⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait16 W K c) $$ [HO C16 A16]
  · isplitr; · iexact HC
    isplitl [HO]; · iexact HO
    isplitl [C16]; · iexact C16
    iexact A16
  iintro ⟨HO, A16, H13⟩
  rw [wp_ret]; imodintro
  iapply Hk
  isplitl [HO]; · iexact HO
  isplitl [H5]; · iexact H5
  isplitl [H13]; · iexact H13
  isplitl [H23]; · iexact H23
  isplitl [H24]; · iexact H24
  iexact A16

/-- Part 20 of the body: what it reads, and what it leaves. -/
theorem part20 (c : Dev nD) (v4 : BitVec 32) (v7 : BitVec 32) (Q : _ → sProp (MT nD τ sig Unit (Elt F) ℕ UU ℕ)) :
    iprop(ctx W K ∗ debt c 0 ∗ pt fullShare c cc0_scratch0 (x16 W c) ∗ pt fullShare c cc0_scratch7 (qB W (lf c)) ∗ pt fullShare c cc0_scratch17 (kV W c) ∗ pt fullShare c cc0_scratch18 (vV W c) ∗ cr c 17 ∗ at0 c 17)
      ⊢ iprop((∀ r, (⌜r.1 = (qB W (lf c)) ∧ r.2.1 = (oB W (lf c)) ∧ r.2.2.1 = (u676 W c) ∧ r.2.2.2.1 = (u687 W c) ∧ r.2.2.2.2.1 = (u701 W c) ∧ r.2.2.2.2.2 = (constant S128x64 .f32 0x00000000#32)⌝ ∗ debt c 0 ∗ pt fullShare c cc0_scratch0 (x16 W c) ∗ pt fullShare c cc0_scratch7 (qB W (lf c)) ∗ pt fullShare c cc0_scratch8 (oB W (lf c)) ∗ pt fullShare c cc0_scratch17 (kV W c) ∗ pt fullShare c cc0_scratch18 (vV W c) ∗ at1 c 17) -∗ Q r)
        -∗ wp frame (wpE (defs₀ (F := F)) 𝒱₀ (c : Thread nD τ) none) Set.univ (k0_part20 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 v7) Q) := by
  rw [k0_part20_eq_skeleton]; unfold k0_part20_skel
  simp only [semSignalWord, semWaitWord, Prog.lift, Prog.bind_op, Prog.bind_ret, Prog.pure_eq_ret, Prog.bind_assoc, wp_deviceId]
  iintro ⟨#HC, HO, H6, H13, H23, H24, C17, A17⟩ Hk
  iapply (wait17 W K c) $$ [HO C17 A17]
  · isplitr; · iexact HC
    isplitl [HO]; · iexact HO
    isplitl [C17]; · iexact C17
    iexact A17
  iintro ⟨HO, A17, H14⟩
  iapply (wp_load 𝒱₀ (c : Thread nD τ) none Set.univ (m := M13) (Finset.subset_univ _)) $$ H13; iintro H13
  rw [r13]
  iapply (wp_load 𝒱₀ (c : Thread nD τ) none Set.univ (m := M14) (Finset.subset_univ _)) $$ H14; iintro H14
  rw [r14]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl, rfl, rfl⟩
  isplitl [HO]; · iexact HO
  isplitl [H6]; · iexact H6
  isplitl [H13]; · iexact H13
  isplitl [H14]; · iexact H14
  isplitl [H23]; · iexact H23
  isplitl [H24]; · iexact H24
  iexact A17

/-- Part 21 of the body: what it reads, and what it leaves. -/
theorem part21 (c : Dev nD) (v7 : BitVec 32) (Q : _ → sProp (MT nD τ sig Unit (Elt F) ℕ UU ℕ)) :
    iprop(pt fullShare c cc0_stg3_0 (joinB (s43 W c) (s46 W c)) ∗ pt fullShare c cc0_scratch17 (kV W c) ∗ pt fullShare c cc0_scratch18 (vV W c))
      ⊢ iprop((∀ r, (pt fullShare c cc0_stg3_0 (joinB (s50 W c) (s46 W c)) ∗ pt fullShare c cc0_scratch17 (kV W c) ∗ pt fullShare c cc0_scratch18 (vV W c)) -∗ Q r)
        -∗ wp frame (wpE (defs₀ (F := F)) 𝒱₀ (c : Thread nD τ) none) Set.univ (k0_part21 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (oB W (lf c)) (u676 W c) (u687 W c) (u701 W c) (constant S128x64 .f32 0x00000000#32)) Q) := by
  rw [k0_part21_eq_skeleton]; unfold k0_part21_skel
  simp only [semSignalWord, semWaitWord, Prog.lift, Prog.bind_op, Prog.bind_ret, Prog.pure_eq_ret, Prog.bind_assoc, wp_deviceId]
  iintro ⟨H5, H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  rw [wp_ret]; imodintro
  iapply Hk
  isplitl [H5]; · iexact H5
  isplitl [H23]; · iexact H23
  iexact H24

/-- Part 22 of the body: what it reads, and what it leaves. -/
theorem part22 (c : Dev nD) (v7 : BitVec 32) (Q : _ → sProp (MT nD τ sig Unit (Elt F) ℕ UU ℕ)) :
    iprop(pt fullShare c cc0_scratch0 (x16 W c) ∗ pt fullShare c cc0_scratch17 (kV W c) ∗ pt fullShare c cc0_scratch18 (vV W c))
      ⊢ iprop((∀ r, (⌜r.1 = (u741 W c) ∧ r.2.1 = (u767 W c) ∧ r.2.2.2 = (u774 W c)⌝ ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part22 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (qB W (lf c))) Q) := by
  rw [k0_part22_eq_skeleton]; unfold k0_part22_skel
  simp only [semSignalWord, semWaitWord, Prog.lift, Prog.bind_op, Prog.bind_ret, Prog.pure_eq_ret, Prog.bind_assoc, wp_deviceId]
  iintro ⟨H6, H23, H24⟩ Hk
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  rw [wp_ret]; imodintro
  iapply Hk
  isplitr
  · ipureintro; exact ⟨rfl, rfl, rfl⟩
  isplitl [H6]; · iexact H6
  isplitl [H23]; · iexact H23
  iexact H24

/-- Part 23 of the body: what it reads, and what it leaves. -/
theorem part23 (c : Dev nD) (v7 : BitVec 32) (v770 : BitVec 32) (Q : _ → sProp (MT nD τ sig Unit (Elt F) ℕ UU ℕ)) :
    iprop(ctx W K ∗ debt c 0 ∗ pt fullShare c cc0_stg3_0 (joinB (s50 W c) (s46 W c)) ∗ pt fullShare c cc0_scratch18 (vV W c) ∗ cr c 20 ∗ at0 c 20)
      ⊢ iprop((∀ r, (debt c 0 ∗ pt fullShare c cc0_stg3_0 (joinB (s50 W c) (s54 W c)) ∗ pt fullShare c cc0_scratch9 (qA W (rt c)) ∗ pt fullShare c cc0_scratch18 (vV W c) ∗ at1 c 20) -∗ Q r)
        -∗ wp frame (wpE (defs₀ (F := F)) 𝒱₀ (c : Thread nD τ) none) Set.univ (k0_part23 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v7 (oB W (lf c)) (u741 W c) (u767 W c) v770 (u774 W c)) Q) := by
  rw [k0_part23_eq_skeleton]; unfold k0_part23_skel
  simp only [semSignalWord, semWaitWord, Prog.lift, Prog.bind_op, Prog.bind_ret, Prog.pure_eq_ret, Prog.bind_assoc, wp_deviceId]
  iintro ⟨#HC, HO, H5, H24, C20, A20⟩ Hk
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait20 W K c) $$ [HO C20 A20]
  · isplitr; · iexact HC
    isplitl [HO]; · iexact HO
    isplitl [C20]; · iexact C20
    iexact A20
  iintro ⟨HO, A20, H15⟩
  rw [wp_ret]; imodintro
  iapply Hk
  isplitl [HO]; · iexact HO
  isplitl [H5]; · iexact H5
  isplitl [H15]; · iexact H15
  isplitl [H24]; · iexact H24
  iexact A20

end Cert.KernelIdealProof

end
-- ==== Proof.KernelIdeal.Parts3.lean ====
/-
  The parts of the body, one after another.
-/
module

public import proofs.«01_k».proof.Proof.KernelIdeal.Waits

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F)) (K : GSem nD τ sig → ℕ)

/-- Part 24 of the body: what it reads, and what it leaves. -/
theorem part24 (c : Dev nD) (v4 : BitVec 32) (Q : _ → sProp (MT nD τ sig Unit (Elt F) ℕ UU ℕ)) :
    iprop(ctx W K ∗ debt c 0 ∗ pt fullShare c cc0_scratch0 (x16 W c) ∗ pt fullShare c cc0_scratch9 (qA W (rt c)) ∗ pt fullShare c cc0_scratch17 (kV W c) ∗ pt fullShare c cc0_scratch18 (vV W c) ∗ cr c 21 ∗ at0 c 21)
      ⊢ iprop((∀ r, (⌜r.1 = (qA W (rt c)) ∧ r.2.1 = (oA W (rt c)) ∧ r.2.2.1 = (u816 W c) ∧ r.2.2.2.1 = (u842 W c)⌝ ∗ debt c 0 ∗ pt fullShare c cc0_scratch0 (x16 W c) ∗ pt fullShare c cc0_scratch9 (qA W (rt c)) ∗ pt fullShare c cc0_scratch10 (oA W (rt c)) ∗ pt fullShare c cc0_scratch17 (kV W c) ∗ pt fullShare c cc0_scratch18 (vV W c) ∗ at1 c 21) -∗ Q r)
        -∗ wp frame (wpE (defs₀ (F := F)) 𝒱₀ (c : Thread nD τ) none) Set.univ (k0_part24 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4) Q) := by
  rw [k0_part24_eq_skeleton]; unfold k0_part24_skel
  simp only [semSignalWord, semWaitWord, Prog.lift, Prog.bind_op, Prog.bind_ret, Prog.pure_eq_ret, Prog.bind_assoc, wp_deviceId]
  iintro ⟨#HC, HO, H6, H15, H23, H24, C21, A21⟩ Hk
  iapply (wait21 W K c) $$ [HO C21 A21]
  · isplitr; · iexact HC
    isplitl [HO]; · iexact HO
    isplitl [C21]; · iexact C21
    iexact A21
  iintro ⟨HO, A21, H16⟩
  iapply (wp_load 𝒱₀ (c : Thread nD τ) none Set.univ (m := M15) (Finset.subset_univ _)) $$ H15; iintro H15
  rw [r15]
  iapply (wp_load 𝒱₀ (c : Thread nD τ) none Set.univ (m := M16) (Finset.subset_univ _)) $$ H16; iintro H16
  rw [r16]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl, rfl⟩
  isplitl [HO]; · iexact HO
  isplitl [H6]; · iexact H6
  isplitl [H15]; · iexact H15
  isplitl [H16]; · iexact H16
  isplitl [H23]; · iexact H23
  isplitl [H24]; · iexact H24
  iexact A21

/-- Part 25 of the body: what it reads, and what it leaves. -/
theorem part25 (c : Dev nD) (v844 : BitVec 32) (c1_i32_534 : BitVec 32) (Q : _ → sProp (MT nD τ sig Unit (Elt F) ℕ UU ℕ)) :
    iprop(pt fullShare c cc0_stg3_0 (joinB (s50 W c) (s54 W c)) ∗ pt fullShare c cc0_scratch0 (x16 W c) ∗ pt fullShare c cc0_scratch17 (kV W c) ∗ pt fullShare c cc0_scratch18 (vV W c))
      ⊢ iprop((∀ r, (⌜r = (u881 W c)⌝ ∗ pt fullShare c cc0_stg3_0 (joinB (s57 W c) (s54 W c)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part25 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c (qA W (rt c)) (oA W (rt c)) (u816 W c) (u842 W c) v844 c1_i32_534) Q) := by
  rw [k0_part25_eq_skeleton]; unfold k0_part25_skel
  simp only [semSignalWord, semWaitWord, Prog.lift, Prog.bind_op, Prog.bind_ret, Prog.pure_eq_ret, Prog.bind_assoc, wp_deviceId]
  iintro ⟨H5, H6, H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  rw [wp_ret]; imodintro
  iapply Hk
  isplitr
  · ipureintro; exact rfl
  isplitl [H5]; · iexact H5
  isplitl [H6]; · iexact H6
  isplitl [H23]; · iexact H23
  iexact H24

/-- Part 26 of the body: what it reads, and what it leaves. -/
theorem part26 (c : Dev nD) (v4 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u907 W c) ∧ r.2.1 = (u914 W c) ∧ r.2.2 = (u918 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part26 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v4 (u881 W c)) Q) := by
  rw [k0_part26_eq_skeleton]; unfold k0_part26_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl⟩
  isplitl [H23]; · iexact H23
  iexact H24

/-- Part 27 of the body: what it reads, and what it leaves. -/
theorem part27 (c : Dev nD) (v4 : BitVec 32) (Q : _ → sProp (MT nD τ sig Unit (Elt F) ℕ UU ℕ)) :
    iprop(ctx W K ∗ debt c 0 ∗ pt fullShare c cc0_stg3_0 (joinB (s57 W c) (s54 W c)) ∗ cr c 22 ∗ cr c 23 ∗ at0 c 22 ∗ at0 c 23)
      ⊢ iprop((∀ r, (⌜r = (qA W (lf (lf c)))⌝ ∗ debt c 0 ∗ pt fullShare c cc0_stg3_0 (joinB (s57 W c) (s62 W c)) ∗ pt fullShare c cc0_scratch13 (qA W (lf (lf c))) ∗ pt fullShare c cc0_scratch14 (oA W (lf (lf c))) ∗ at1 c 22 ∗ at1 c 23) -∗ Q r)
        -∗ wp frame (wpE (defs₀ (F := F)) 𝒱₀ (c : Thread nD τ) none) Set.univ (k0_part27 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 v4 (oA W (rt c)) (u881 W c) (u907 W c) (u914 W c) (u918 W c)) Q) := by
  rw [k0_part27_eq_skeleton]; unfold k0_part27_skel
  simp only [semSignalWord, semWaitWord, Prog.lift, Prog.bind_op, Prog.bind_ret, Prog.pure_eq_ret, Prog.bind_assoc, wp_deviceId]
  iintro ⟨#HC, HO, H5, C22, C23, A22, A23⟩ Hk
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait22 W K c) $$ [HO C22 A22]
  · isplitr; · iexact HC
    isplitl [HO]; · iexact HO
    isplitl [C22]; · iexact C22
    iexact A22
  iintro ⟨HO, A22, H19⟩
  iapply (wait23 W K c) $$ [HO C23 A23]
  · isplitr; · iexact HC
    isplitl [HO]; · iexact HO
    isplitl [C23]; · iexact C23
    iexact A23
  iintro ⟨HO, A23, H20⟩
  iapply (wp_load 𝒱₀ (c : Thread nD τ) none Set.univ (m := M19) (Finset.subset_univ _)) $$ H19; iintro H19
  rw [r19]
  rw [wp_ret]; imodintro
  iapply Hk
  isplitr
  · ipureintro; exact rfl
  isplitl [HO]; · iexact HO
  isplitl [H5]; · iexact H5
  isplitl [H19]; · iexact H19
  isplitl [H20]; · iexact H20
  isplitl [A22]; · iexact A22
  iexact A23

/-- Part 28 of the body: what it reads, and what it leaves. -/
theorem part28 (c : Dev nD) (v9 : BitVec 32) (Q : _ → sProp (MT nD τ sig Unit (Elt F) ℕ UU ℕ)) :
    iprop(pt fullShare c cc0_scratch0 (x16 W c) ∗ pt fullShare c cc0_scratch14 (oA W (lf (lf c))) ∗ pt fullShare c cc0_scratch17 (kV W c) ∗ pt fullShare c cc0_scratch18 (vV W c))
      ⊢ iprop((∀ r, (⌜r.1 = (oA W (lf (lf c))) ∧ r.2.1 = (u956 W c) ∧ r.2.2.1 = (u982 W c) ∧ r.2.2.2.2 = (u987 W c)⌝ ∗ pt fullShare c cc0_scratch0 (x16 W c) ∗ pt fullShare c cc0_scratch14 (oA W (lf (lf c))) ∗ pt fullShare c cc0_scratch17 (kV W c) ∗ pt fullShare c cc0_scratch18 (vV W c)) -∗ Q r)
        -∗ wp frame (wpE (defs₀ (F := F)) 𝒱₀ (c : Thread nD τ) none) Set.univ (k0_part28 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (qA W (lf (lf c)))) Q) := by
  rw [k0_part28_eq_skeleton]; unfold k0_part28_skel
  simp only [semSignalWord, semWaitWord, Prog.lift, Prog.bind_op, Prog.bind_ret, Prog.pure_eq_ret, Prog.bind_assoc, wp_deviceId]
  iintro ⟨H6, H20, H23, H24⟩ Hk
  iapply (wp_load 𝒱₀ (c : Thread nD τ) none Set.univ (m := M20) (Finset.subset_univ _)) $$ H20; iintro H20
  rw [r20]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  rw [wp_ret]; imodintro
  iapply Hk
  isplitr
  · ipureintro; exact ⟨rfl, rfl, rfl, rfl⟩
  isplitl [H6]; · iexact H6
  isplitl [H20]; · iexact H20
  isplitl [H23]; · iexact H23
  iexact H24

/-- Part 29 of the body: what it reads, and what it leaves. -/
theorem part29 (c : Dev nD) (v9 : BitVec 32) (v985 : BitVec 32) (Q : _ → sProp (MT nD τ sig Unit (Elt F) ℕ UU ℕ)) :
    iprop(pt fullShare c cc0_stg3_0 (joinB (s57 W c) (s62 W c)) ∗ pt fullShare c cc0_scratch0 (x16 W c) ∗ pt fullShare c cc0_scratch18 (vV W c))
      ⊢ iprop((∀ r, (⌜r.1 = (u1021 W c)⌝ ∗ pt fullShare c cc0_stg3_0 (joinB (s65 W c) (s62 W c)) ∗ pt fullShare c cc0_scratch0 (x16 W c) ∗ pt fullShare c cc0_scratch18 (vV W c)) -∗ Q r)
        -∗ wp frame (wpE (defs₀ (F := F)) 𝒱₀ (c : Thread nD τ) none) Set.univ (k0_part29 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (qA W (lf (lf c))) (oA W (lf (lf c))) (u956 W c) (u982 W c) v985 (u987 W c)) Q) := by
  rw [k0_part29_eq_skeleton]; unfold k0_part29_skel
  simp only [semSignalWord, semWaitWord, Prog.lift, Prog.bind_op, Prog.bind_ret, Prog.pure_eq_ret, Prog.bind_assoc, wp_deviceId]
  iintro ⟨H5, H6, H24⟩ Hk
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  rw [wp_ret]; imodintro
  iapply Hk
  isplitr
  · ipureintro; exact rfl
  isplitl [H5]; · iexact H5
  isplitl [H6]; · iexact H6
  iexact H24

/-- Part 30 of the body: what it reads, and what it leaves. -/
theorem part30 (c : Dev nD) (v9 : BitVec 32) (v1024 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u1047 W c) ∧ r.2.1 = (u1058 W c) ∧ r.2.2 = (u1062 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part30 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (u1021 W c) v1024) Q) := by
  rw [k0_part30_eq_skeleton]; unfold k0_part30_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl⟩
  isplitl [H23]; · iexact H23
  iexact H24

/-- Part 31 of the body: what it reads, and what it leaves. -/
theorem part31 (c : Dev nD) (v7 : BitVec 32) (Q : _ → sProp (MT nD τ sig Unit (Elt F) ℕ UU ℕ)) :
    iprop(ctx W K ∗ debt c 0 ∗ pt fullShare c cc0_stg3_0 (joinB (s65 W c) (s62 W c)) ∗ pt fullShare c cc0_scratch0 (x16 W c) ∗ cr c 24 ∗ cr c 25 ∗ at0 c 24 ∗ at0 c 25)
      ⊢ iprop((∀ r, (⌜r.1 = (qB W (rt (rt c))) ∧ r.2.1 = (oB W (rt (rt c))) ∧ r.2.2 = (u1094 W c)⌝ ∗ debt c 0 ∗ pt fullShare c cc0_stg3_0 (joinB (s65 W c) (s70 W c)) ∗ pt fullShare c cc0_scratch0 (x16 W c) ∗ pt fullShare c cc0_scratch15 (qB W (rt (rt c))) ∗ pt fullShare c cc0_scratch16 (oB W (rt (rt c))) ∗ at1 c 24 ∗ at1 c 25) -∗ Q r)
        -∗ wp frame (wpE (defs₀ (F := F)) 𝒱₀ (c : Thread nD τ) none) Set.univ (k0_part31 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 v7 (oA W (lf (lf c))) (u1047 W c) (u1058 W c) (u1062 W c)) Q) := by
  rw [k0_part31_eq_skeleton]; unfold k0_part31_skel
  simp only [semSignalWord, semWaitWord, Prog.lift, Prog.bind_op, Prog.bind_ret, Prog.pure_eq_ret, Prog.bind_assoc, wp_deviceId]
  iintro ⟨#HC, HO, H5, H6, C24, C25, A24, A25⟩ Hk
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait24 W K c) $$ [HO C24 A24]
  · isplitr; · iexact HC
    isplitl [HO]; · iexact HO
    isplitl [C24]; · iexact C24
    iexact A24
  iintro ⟨HO, A24, H21⟩
  iapply (wait25 W K c) $$ [HO C25 A25]
  · isplitr; · iexact HC
    isplitl [HO]; · iexact HO
    isplitl [C25]; · iexact C25
    iexact A25
  iintro ⟨HO, A25, H22⟩
  iapply (wp_load 𝒱₀ (c : Thread nD τ) none Set.univ (m := M21) (Finset.subset_univ _)) $$ H21; iintro H21
  rw [r21]
  iapply (wp_load 𝒱₀ (c : Thread nD τ) none Set.univ (m := M22) (Finset.subset_univ _)) $$ H22; iintro H22
  rw [r22]
  iapply (wp_load 𝒱₀ (c : Thread nD τ) none Set.univ (m := M6) (Finset.subset_univ _)) $$ H6; iintro H6
  rw [wp_ret]; imodintro
  iapply Hk
  isplitr
  · ipureintro; exact ⟨rfl, rfl, rfl⟩
  isplitl [HO]; · iexact HO
  isplitl [H5]; · iexact H5
  isplitl [H6]; · iexact H6
  isplitl [H21]; · iexact H21
  isplitl [H22]; · iexact H22
  isplitl [A24]; · iexact A24
  iexact A25

/-- Part 32 of the body: what it reads, and what it leaves. -/
theorem part32 (c : Dev nD) (v9 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u1096 W c) ∧ r.2.1 = (u1122 W c) ∧ r.2.2 = (u1129 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part32 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (qB W (rt (rt c))) (u1094 W c)) Q) := by
  rw [k0_part32_eq_skeleton]; unfold k0_part32_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  rw [wp_ret]; imodintro
  iapply Hk
  isplitr
  · ipureintro; exact ⟨rfl, rfl, rfl⟩
  isplitl [H23]; · iexact H23
  iexact H24

/-- Part 33 of the body: what it reads, and what it leaves. -/
theorem part33 (c : Dev nD) (v9 : BitVec 32) (Q : _ → sProp (MT nD τ sig Unit (Elt F) ℕ UU ℕ)) :
    iprop(pt fullShare c cc0_stg3_0 (joinB (s65 W c) (s70 W c)) ∗ pt fullShare c cc0_scratch0 (x16 W c) ∗ pt fullShare c cc0_scratch17 (kV W c) ∗ pt fullShare c cc0_scratch18 (vV W c))
      ⊢ iprop((∀ r, (⌜r.1 = (u1161 W c) ∧ r.2.2 = (u1167 W c)⌝ ∗ pt fullShare c cc0_stg3_0 (joinB (s75 W c) (s70 W c)) ∗ pt fullShare c cc0_scratch0 (x16 W c) ∗ pt fullShare c cc0_scratch17 (kV W c) ∗ pt fullShare c cc0_scratch18 (vV W c)) -∗ Q r)
        -∗ wp frame (wpE (defs₀ (F := F)) 𝒱₀ (c : Thread nD τ) none) Set.univ (k0_part33 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (qB W (rt (rt c))) (oB W (rt (rt c))) (u1096 W c) (u1122 W c) (u1129 W c)) Q) := by
  rw [k0_part33_eq_skeleton]; unfold k0_part33_skel
  simp only [semSignalWord, semWaitWord, Prog.lift, Prog.bind_op, Prog.bind_ret, Prog.pure_eq_ret, Prog.bind_assoc, wp_deviceId]
  iintro ⟨H5, H6, H23, H24⟩ Hk
  iapply (wp_load 𝒱₀ (c : Thread nD τ) none Set.univ (m := M24) (Finset.subset_univ _)) $$ H24; iintro H24
  iapply (wp_load 𝒱₀ (c : Thread nD τ) none Set.univ (m := M5) (Finset.subset_univ _)) $$ H5; iintro H5
  rw [get0]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S1x128x512.size inb_S2x128x512_S1x128x512_0_0_0) (Mk := Finset.univ) (Finset.subset_univ _)) $$ H5; iintro H5
  rw [put0]
  iapply (wp_load 𝒱₀ (c : Thread nD τ) none Set.univ (m := M6) (Finset.subset_univ _)) $$ H6; iintro H6
  iapply (wp_load 𝒱₀ (c : Thread nD τ) none Set.univ (m := M23) (Finset.subset_univ _)) $$ H23; iintro H23
  rw [wp_ret]; imodintro
  iapply Hk
  isplitr
  · ipureintro; exact ⟨rfl, rfl⟩
  isplitl [H5]; · iexact H5
  isplitl [H6]; · iexact H6
  isplitl [H23]; · iexact H23
  iexact H24

/-- Part 34 of the body: what it reads, and what it leaves. -/
theorem part34 (c : Dev nD) (v9 : BitVec 32) (v1164 : BitVec 32) (Q : _ → sProp (MT nD τ sig Unit (Elt F) ℕ UU ℕ)) :
    iprop(pt fullShare c cc0_scratch17 (kV W c) ∗ pt fullShare c cc0_scratch18 (vV W c))
      ⊢ iprop((∀ r, (⌜r.1 = (u1187 W c) ∧ r.2.1 = (u1198 W c) ∧ r.2.2 = (u1207 W c)⌝ ∗ pt fullShare c cc0_scratch17 (kV W c) ∗ pt fullShare c cc0_scratch18 (vV W c)) -∗ Q r)
        -∗ wp frame (wpE (defs₀ (F := F)) 𝒱₀ (c : Thread nD τ) none) Set.univ (k0_part34 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 c v9 (u1161 W c) v1164 (u1167 W c)) Q) := by
  rw [k0_part34_eq_skeleton]; unfold k0_part34_skel
  simp only [semSignalWord, semWaitWord, Prog.lift, Prog.bind_op, Prog.bind_ret, Prog.pure_eq_ret, Prog.bind_assoc, wp_deviceId]
  iintro ⟨H23, H24⟩ Hk
  iapply (wp_load 𝒱₀ (c : Thread nD τ) none Set.univ (m := M24) (Finset.subset_univ _)) $$ H24; iintro H24
  iapply (wp_load 𝒱₀ (c : Thread nD τ) none Set.univ (m := M23) (Finset.subset_univ _)) $$ H23; iintro H23
  iapply (wp_load 𝒱₀ (c : Thread nD τ) none Set.univ (m := M24) (Finset.subset_univ _)) $$ H24; iintro H24
  rw [wp_ret]; imodintro
  iapply Hk
  isplitr
  · ipureintro; exact ⟨rfl, rfl, rfl⟩
  isplitl [H23]; · iexact H23
  iexact H24

/-- Part 35 of the body: what it reads, and what it leaves. -/
theorem part35 (c : Dev nD)  (Q : _ → sProp (MT nD τ sig Unit (Elt F) ℕ UU ℕ)) :
    iprop(ctx W K ∗ debt c 0 ∗ pt fullShare c cc0_stg3_0 (joinB (s75 W c) (s70 W c)) ∗ cr c 2 ∗ cr c 3 ∗ cr c 4 ∗ cr c 5 ∗ cr c 6 ∗ at0 c 2 ∗ at0 c 3 ∗ at0 c 4 ∗ at0 c 5 ∗ at0 c 6)
      ⊢ iprop((∀ r, (debt c 0 ∗ pt fullShare c cc0_stg3_0 (joinB (s75 W c) (s81 W c)) ∗ pt h0 c cc0_scratch1 (qA W c) ∗ pt h0 c cc0_scratch3 (oA W c) ∗ pt h0 c cc0_scratch2 (qB W c) ∗ pt h0 c cc0_scratch4 (oB W c) ∗ pt h1 c cc0_scratch2 (qB W c) ∗ at1 c 2 ∗ at1 c 3 ∗ at1 c 4 ∗ at1 c 5 ∗ at1 c 6) -∗ Q r)
        -∗ wp frame (wpE (defs₀ (F := F)) 𝒱₀ (c : Thread nD τ) none) Set.univ (k0_part35 M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21 (oB W (rt (rt c))) (u1187 W c) (u1198 W c) (u1207 W c)) Q) := by
  rw [k0_part35_eq_skeleton]; unfold k0_part35_skel
  simp only [semSignalWord, semWaitWord, Prog.lift, Prog.bind_op, Prog.bind_ret, Prog.pure_eq_ret, Prog.bind_assoc, wp_deviceId]
  iintro ⟨#HC, HO, H5, C2, C3, C4, C5, C6, A2, A3, A4, A5, A6⟩ Hk
  iapply (wp_load 𝒱₀ (c : Thread nD τ) none Set.univ (m := M5) (Finset.subset_univ _)) $$ H5; iintro H5
  rw [get1]
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![1, 0, 0] S1x128x512.size inb_S2x128x512_S1x128x512_1_0_0) (Mk := Finset.univ) (Finset.subset_univ _)) $$ H5; iintro H5
  rw [put1]
  iapply (wait2 W K c) $$ [HO C2 A2]
  · isplitr; · iexact HC
    isplitl [HO]; · iexact HO
    isplitl [C2]; · iexact C2
    iexact A2
  iintro ⟨HO, A2, S0⟩
  iapply (wait3 W K c) $$ [HO C3 A3]
  · isplitr; · iexact HC
    isplitl [HO]; · iexact HO
    isplitl [C3]; · iexact C3
    iexact A3
  iintro ⟨HO, A3, S1⟩
  iapply (wait4 W K c) $$ [HO C4 A4]
  · isplitr; · iexact HC
    isplitl [HO]; · iexact HO
    isplitl [C4]; · iexact C4
    iexact A4
  iintro ⟨HO, A4, S2⟩
  iapply (wait5 W K c) $$ [HO C5 A5]
  · isplitr; · iexact HC
    isplitl [HO]; · iexact HO
    isplitl [C5]; · iexact C5
    iexact A5
  iintro ⟨HO, A5, S3⟩
  iapply (wait6 W K c) $$ [HO C6 A6]
  · isplitr; · iexact HC
    isplitl [HO]; · iexact HO
    isplitl [C6]; · iexact C6
    iexact A6
  iintro ⟨HO, A6, S4⟩
  rw [wp_ret]; imodintro
  iapply Hk
  isplitl [HO]; · iexact HO
  isplitl [H5]; · iexact H5
  isplitl [S0]; · iexact S0
  isplitl [S1]; · iexact S1
  isplitl [S2]; · iexact S2
  isplitl [S3]; · iexact S3
  isplitl [S4]; · iexact S4
  isplitl [A2]; · iexact A2
  isplitl [A3]; · iexact A3
  isplitl [A4]; · iexact A4
  isplitl [A5]; · iexact A5
  iexact A6

end Cert.KernelIdealProof

end
-- ==== Proof.KernelIdeal.Body.lean ====
/-
  The body, its parts composed at a device: from the device's buffers, cells and duties to the same buffers holding what the
  body computes.
-/
module

public import proofs.«01_k».proof.Proof.KernelIdeal.Parts1
public import proofs.«01_k».proof.Proof.KernelIdeal.Parts2
public import proofs.«01_k».proof.Proof.KernelIdeal.Parts3

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (W : Dev nD → Valuation τ sig (Elt F)) (K : GSem nD τ sig → ℕ)

/-- What a device brings to the body. -/
def bodyPre (c : Dev nD) : sProp (MT nD τ sig Unit (Elt F) ℕ UU ℕ) :=
  iprop(ctx W K ∗ ownReached c ∗ reached ER (barCell (lf c)) 0 ∗ reached ER (barCell (rt c)) 0 ∗ debt c 14 ∗ dutyTok ER (barCell (lf c)) 0 true ∗ dutyTok ER (barCell (rt c)) 0 false ∗ barL c ∗ barR c ∗ cred (tallyAt (barCell c) () 2) ∗ atPos ER (barCell c) 0 ∅ 0 ∗ pt fullShare c cc0_stg0_0 (xV W c) ∗ pt fullShare c cc0_stg1_0 (wqV W c) ∗ pt fullShare c main_v16 (kV W c) ∗ pt fullShare c main_v18 (vV W c) ∗ pt fullShare c cc0_stg2_0 (woV W c) ∗ any c cc0_stg3_0 ∗ any c cc0_scratch0 ∗ any c cc0_scratch1 ∗ any c cc0_scratch2 ∗ any c cc0_scratch3 ∗ any c cc0_scratch4 ∗ any c cc0_scratch17 ∗ any c cc0_scratch18 ∗ cr c 14 ∗ cr c 15 ∗ cr c 16 ∗ cr c 17 ∗ cr c 18 ∗ cr c 19 ∗ cr c 20 ∗ cr c 21 ∗ cr c 22 ∗ cr c 23 ∗ cr c 24 ∗ cr c 25 ∗ at0 c 0 ∗ at0 c 1 ∗ at0 c 2 ∗ at0 c 3 ∗ at0 c 4 ∗ at0 c 5 ∗ at0 c 6 ∗ at0 c 7 ∗ at0 c 8 ∗ at0 c 9 ∗ at0 c 10 ∗ at0 c 11 ∗ at0 c 12 ∗ at0 c 13 ∗ at0 c 14 ∗ at0 c 15 ∗ at0 c 16 ∗ at0 c 17 ∗ at0 c 18 ∗ at0 c 19 ∗ at0 c 20 ∗ at0 c 21 ∗ at0 c 22 ∗ at0 c 23 ∗ at0 c 24 ∗ at0 c 25 ∗ tok c 0 ∗ tok c 1 ∗ tok c 2 ∗ tok c 3 ∗ tok c 4 ∗ tok c 5 ∗ tok c 6 ∗ tok c 7 ∗ tok c 8 ∗ tok c 9 ∗ tok c 10 ∗ tok c 11 ∗ tok c 12 ∗ tok c 13 ∗ tok (rt c) 14 ∗ tok (rt c) 15 ∗ tok (rt c) 16 ∗ tok (rt c) 17 ∗ tok (lf c) 18 ∗ tok (lf c) 19 ∗ tok (lf c) 20 ∗ tok (lf c) 21 ∗ tok (rt c) 22 ∗ tok (rt c) 23 ∗ tok (lf c) 24 ∗ tok (lf c) 25)

/-- What the body leaves. -/
def bodyPost (c : Dev nD) : sProp (MT nD τ sig Unit (Elt F) ℕ UU ℕ) :=
  iprop(debt c 0 ∗ atPos ER (barCell c) (0 + 1) ∅ 0 ∗ pt fullShare c cc0_stg0_0 (xV W c) ∗ pt fullShare c cc0_stg1_0 (wqV W c) ∗ pt fullShare c main_v16 (kV W c) ∗ pt fullShare c main_v18 (vV W c) ∗ pt fullShare c cc0_stg2_0 (woV W c) ∗ pt fullShare c cc0_stg3_0 (joinB (s75 W c) (s81 W c)) ∗ pt fullShare c cc0_scratch0 (x16 W c) ∗ pt h2 c cc0_scratch1 (qA W c) ∗ pt h2 c cc0_scratch2 (qB W c) ∗ pt h2 c cc0_scratch3 (oA W c) ∗ pt h2 c cc0_scratch4 (oB W c) ∗ pt hr c cc0_scratch5 (qA W (lf c)) ∗ pt hr c cc0_scratch6 (oA W (lf c)) ∗ pt fullShare c cc0_scratch7 (qB W (lf c)) ∗ pt fullShare c cc0_scratch8 (oB W (lf c)) ∗ pt fullShare c cc0_scratch9 (qA W (rt c)) ∗ pt fullShare c cc0_scratch10 (oA W (rt c)) ∗ pt hr c cc0_scratch11 (qB W (rt c)) ∗ pt hr c cc0_scratch12 (oB W (rt c)) ∗ pt fullShare c cc0_scratch13 (qA W (lf (lf c))) ∗ pt fullShare c cc0_scratch14 (oA W (lf (lf c))) ∗ pt fullShare c cc0_scratch15 (qB W (rt (rt c))) ∗ pt fullShare c cc0_scratch16 (oB W (rt (rt c))) ∗ pt fullShare c cc0_scratch17 (kV W c) ∗ pt fullShare c cc0_scratch18 (vV W c) ∗ pt h0 c cc0_scratch1 (qA W c) ∗ pt h0 c cc0_scratch3 (oA W c) ∗ pt h0 c cc0_scratch2 (qB W c) ∗ pt h0 c cc0_scratch4 (oB W c) ∗ pt h1 c cc0_scratch2 (qB W c) ∗ pt h1 c cc0_scratch4 (oB W c) ∗ pt h1 c cc0_scratch1 (qA W c) ∗ pt h1 c cc0_scratch3 (oA W c) ∗ pt h0 c cc0_scratch5 (qA W (lf c)) ∗ pt h0 c cc0_scratch6 (oA W (lf c)) ∗ pt h0 c cc0_scratch11 (qB W (rt c)) ∗ pt h0 c cc0_scratch12 (oB W (rt c)) ∗ at1 c 0 ∗ at1 c 1 ∗ at1 c 2 ∗ at1 c 3 ∗ at1 c 4 ∗ at1 c 5 ∗ at1 c 6 ∗ at1 c 7 ∗ at1 c 8 ∗ at1 c 9 ∗ at1 c 10 ∗ at1 c 11 ∗ at1 c 12 ∗ at1 c 13 ∗ at1 c 14 ∗ at1 c 15 ∗ at1 c 16 ∗ at1 c 17 ∗ at1 c 18 ∗ at1 c 19 ∗ at1 c 20 ∗ at1 c 21 ∗ at1 c 22 ∗ at1 c 23 ∗ at1 c 24 ∗ at1 c 25)

set_option maxHeartbeats 20000000 in
/-- The body's run. -/
theorem body_run (c : Dev nD) (Q : PUnit → sProp (MT nD τ sig Unit (Elt F) ℕ UU ℕ)) :
    iprop(bodyPre W K c) ⊢ iprop((bodyPost W c -∗ Q ⟨⟩) -∗ wp frame (wpE (defs₀ (F := F)) 𝒱₀ (c : Thread nD τ) none) Set.univ (cc0_body M0 (wh _) M1 (wh _) M2 (wh _) M3 (wh _) M4 (wh _) M5 (wh _) M6 (wh _) M7 (wh _) M8 (wh _) M9 (wh _) M10 (wh _) M11 (wh _) M12 (wh _) M13 (wh _) M14 (wh _) M15 (wh _) M16 (wh _) M17 (wh _) M18 (wh _) M19 (wh _) M20 (wh _) M21 (wh _) M22 (wh _) M23 (wh _) M24 (wh _) cc0_scratch19 cc0_scratch20 cc0_scratch21) Q) := by
  rw [cc0_body_eq_skeleton]; unfold cc0_body_skel
  rw [wp_bind, k0_part36_eq_skeleton]; unfold k0_part36_skel bodyPre
  iintro ⟨#HC, #OC, #RL, #RR, HO, TL, TR, BL, BR, CB, AB, H0, H1, H2, H3, H4, H5, H6, H7, H8, H9, H10, H23, H24, C14, C15, C16, C17, C18, C19, C20, C21, C22, C23, C24, C25, A0, A1, A2, A3, A4, A5, A6, A7, A8, A9, A10, A11, A12, A13, A14, A15, A16, A17, A18, A19, A20, A21, A22, A23, A24, A25, T0, T1, T2, T3, T4, T5, T6, T7, T8, T9, T10, T11, T12, T13, R0, R1, R2, R3, R4, R5, R6, R7, R8, R9, R10, R11⟩ Hk
  rw [wp_bind]
  iapply (part1 W K c  _) $$ [HO TL TR BL BR CB AB H1 H2 H3 H7 H23 H24 T0 T1]
  · isplitr; · iexact HC
    isplitr; · iexact OC
    isplitr; · iexact RL
    isplitr; · iexact RR
    isplitl [HO]; · iexact HO
    isplitl [TL]; · iexact TL
    isplitl [TR]; · iexact TR
    isplitl [BL]; · iexact BL
    isplitl [BR]; · iexact BR
    isplitl [CB]; · iexact CB
    isplitl [AB]; · iexact AB
    isplitl [H1]; · iexact H1
    isplitl [H2]; · iexact H2
    isplitl [H3]; · iexact H3
    isplitl [H7]; · iexact H7
    isplitl [H23]; · iexact H23
    isplitl [H24]; · iexact H24
    isplitl [T0]; · iexact T0
    iexact T1
  iintro %r ⟨%h, #OL, #OR, HO, AB, H1, H7, D0, D1, D2, D3, D4, D5, D6, D7, D8, D9, D10, D11, C0, C1⟩
  obtain ⟨d0, v2, v4, v7, v9, v27⟩ := r
  try dsimp only at h
  obtain ⟨h0, h1⟩ := h
  replace h0 := h0.symm; subst h0
  replace h1 := h1.symm; subst h1
  try dsimp only
  rw [wp_bind]
  iapply (part2 W K c _ _) $$ [HO H4 H7 H8 H9 H10 D0 D1 T2 T3 R0 R1]
  · isplitr; · iexact HC
    isplitr; · iexact OC
    isplitr; · iexact OR
    isplitl [HO]; · iexact HO
    isplitl [H4]; · iexact H4
    isplitl [H7]; · iexact H7
    isplitl [H8]; · iexact H8
    isplitl [H9]; · iexact H9
    isplitl [H10]; · iexact H10
    isplitl [D0]; · iexact D0
    isplitl [D1]; · iexact D1
    isplitl [T2]; · iexact T2
    isplitl [T3]; · iexact T3
    isplitl [R0]; · iexact R0
    iexact R1
  iintro %r ⟨HO, H4, H7, H8, H9, H10, C2, C3⟩
  rw [wp_bind]
  iapply (part3 W K c _ _ _) $$ [HO H0 H7 H8 H9 H10 D2 D3 D4 D5 D6 D7 T4 T5 T6 T7 T8 T9 R2 R3 R4 R5 R6 R7]
  · isplitr; · iexact HC
    isplitr; · iexact OC
    isplitr; · iexact OL
    isplitr; · iexact OR
    isplitl [HO]; · iexact HO
    isplitl [H0]; · iexact H0
    isplitl [H7]; · iexact H7
    isplitl [H8]; · iexact H8
    isplitl [H9]; · iexact H9
    isplitl [H10]; · iexact H10
    isplitl [D2]; · iexact D2
    isplitl [D3]; · iexact D3
    isplitl [D4]; · iexact D4
    isplitl [D5]; · iexact D5
    isplitl [D6]; · iexact D6
    isplitl [D7]; · iexact D7
    isplitl [T4]; · iexact T4
    isplitl [T5]; · iexact T5
    isplitl [T6]; · iexact T6
    isplitl [T7]; · iexact T7
    isplitl [T8]; · iexact T8
    isplitl [T9]; · iexact T9
    isplitl [R2]; · iexact R2
    isplitl [R3]; · iexact R3
    isplitl [R4]; · iexact R4
    isplitl [R5]; · iexact R5
    isplitl [R6]; · iexact R6
    iexact R7
  iintro %r ⟨%h, HO, H0, H7, H8, H9, H10, C4, C5, C6, C7, C8, C9⟩
  try dsimp only at h
  have h0 := h; clear h
  replace h0 := h0.symm; subst h0
  rw [wp_bind]
  iapply (part4 W K c _ _) $$ [HO H6 H7 H9 C0 C1 A0 A1]
  · isplitr; · iexact HC
    isplitl [HO]; · iexact HO
    isplitl [H6]; · iexact H6
    isplitl [H7]; · iexact H7
    isplitl [H9]; · iexact H9
    isplitl [C0]; · iexact C0
    isplitl [C1]; · iexact C1
    isplitl [A0]; · iexact A0
    iexact A1
  iintro %r ⟨%h, HO, H2, H3, H6, H7, H9, H23, H24, A0, A1⟩
  obtain ⟨v101, v102, v106, v117, v121, v123⟩ := r
  try dsimp only at h
  obtain ⟨h0, h1, h2, h3, h4, h5⟩ := h
  replace h0 := h0.symm; subst h0
  replace h1 := h1.symm; subst h1
  replace h2 := h2.symm; subst h2
  replace h3 := h3.symm; subst h3
  replace h4 := h4.symm; subst h4
  replace h5 := h5.symm; subst h5
  try dsimp only
  rw [wp_bind]
  iapply (part5 W c _ _) $$ [H5 H23 H24]
  · isplitl [H5]; · iexact H5
    isplitl [H23]; · iexact H23
    iexact H24
  iintro %r ⟨%h, H5, H23, H24⟩
  try dsimp only at h
  have h0 := h; clear h
  replace h0 := h0.symm; subst h0
  rw [wp_bind]
  iapply (part6 W c _ _) $$ [H5 H6 H23 H24]
  · isplitl [H5]; · iexact H5
    isplitl [H6]; · iexact H6
    isplitl [H23]; · iexact H23
    iexact H24
  iintro %r ⟨%h, H5, H6, H23, H24⟩
  obtain ⟨v168, v194, v197⟩ := r
  try dsimp only at h
  obtain ⟨h0, h1⟩ := h
  replace h0 := h0.symm; subst h0
  replace h1 := h1.symm; subst h1
  try dsimp only
  rw [wp_bind]
  iapply (part7 W c _ _ _) $$ [H5 H6 H8 H10 H23 H24]
  · isplitl [H5]; · iexact H5
    isplitl [H6]; · iexact H6
    isplitl [H8]; · iexact H8
    isplitl [H10]; · iexact H10
    isplitl [H23]; · iexact H23
    iexact H24
  iintro %r ⟨%h, H5, H6, H8, H10, H23, H24⟩
  obtain ⟨v227, v228, v232, v234, c0_i32_148⟩ := r
  try dsimp only at h
  obtain ⟨h0, h1, h2⟩ := h
  replace h0 := h0.symm; subst h0
  replace h1 := h1.symm; subst h1
  replace h2 := h2.symm; subst h2
  try dsimp only
  rw [wp_bind]
  iapply (part8 W c _ _ _ _) $$ [H23 H24]
  · isplitl [H23]; · iexact H23
    iexact H24
  iintro %r ⟨%h, H23, H24⟩
  obtain ⟨v258, v269, v271, v272⟩ := r
  try dsimp only at h
  obtain ⟨h0, h1, h2, h3⟩ := h
  replace h0 := h0.symm; subst h0
  replace h1 := h1.symm; subst h1
  replace h2 := h2.symm; subst h2
  replace h3 := h3.symm; subst h3
  try dsimp only
  rw [wp_bind]
  iapply (part9 W c _ _) $$ [H5 H6 H23 H24]
  · isplitl [H5]; · iexact H5
    isplitl [H6]; · iexact H6
    isplitl [H23]; · iexact H23
    iexact H24
  iintro %r ⟨%h, H5, H6, H23, H24⟩
  obtain ⟨v297, v304, v308⟩ := r
  try dsimp only at h
  obtain ⟨h0, h1, h2⟩ := h
  replace h0 := h0.symm; subst h0
  replace h1 := h1.symm; subst h1
  replace h2 := h2.symm; subst h2
  try dsimp only
  rw [wp_bind]
  iapply (part10 W c _ _) $$ [H23 H24]
  · isplitl [H23]; · iexact H23
    iexact H24
  iintro %r ⟨%h, H23, H24⟩
  obtain ⟨v323, v349⟩ := r
  try dsimp only at h
  obtain ⟨h0, h1⟩ := h
  replace h0 := h0.symm; subst h0
  replace h1 := h1.symm; subst h1
  try dsimp only
  rw [wp_bind]
  iapply (part11 W K c _ _ _) $$ [HO H5 C14 C15 C18 C19 A14 A15 A18 A19]
  · isplitr; · iexact HC
    isplitl [HO]; · iexact HO
    isplitl [H5]; · iexact H5
    isplitl [C14]; · iexact C14
    isplitl [C15]; · iexact C15
    isplitl [C18]; · iexact C18
    isplitl [C19]; · iexact C19
    isplitl [A14]; · iexact A14
    isplitl [A15]; · iexact A15
    isplitl [A18]; · iexact A18
    iexact A19
  iintro %r ⟨HO, H5, H11, H12, H17, H18, A14, A15, A18, A19⟩
  rw [wp_bind]
  iapply (part12 W K c _ _ _) $$ [HO H6 H11 H12 H17 H18 D8 D9 D10 D11 T10 T11 T12 T13 R8 R9 R10 R11]
  · isplitr; · iexact HC
    isplitr; · iexact OC
    isplitr; · iexact OL
    isplitr; · iexact OR
    isplitl [HO]; · iexact HO
    isplitl [H6]; · iexact H6
    isplitl [H11]; · iexact H11
    isplitl [H12]; · iexact H12
    isplitl [H17]; · iexact H17
    isplitl [H18]; · iexact H18
    isplitl [D8]; · iexact D8
    isplitl [D9]; · iexact D9
    isplitl [D10]; · iexact D10
    isplitl [D11]; · iexact D11
    isplitl [T10]; · iexact T10
    isplitl [T11]; · iexact T11
    isplitl [T12]; · iexact T12
    isplitl [T13]; · iexact T13
    isplitl [R8]; · iexact R8
    isplitl [R9]; · iexact R9
    isplitl [R10]; · iexact R10
    iexact R11
  iintro %r ⟨%h, HO, H6, H11, H12, H17, H18, C10, C11, C12, C13⟩
  obtain ⟨v399, v400, v404, v407⟩ := r
  try dsimp only at h
  obtain ⟨h0, h1, h2⟩ := h
  replace h0 := h0.symm; subst h0
  replace h1 := h1.symm; subst h1
  replace h2 := h2.symm; subst h2
  try dsimp only
  rw [wp_bind]
  iapply (part13 W c _ _ _) $$ [H23 H24]
  · isplitl [H23]; · iexact H23
    iexact H24
  iintro %r ⟨%h, H23, H24⟩
  obtain ⟨v430, v441, v445, v447⟩ := r
  try dsimp only at h
  obtain ⟨h0, h1, h2, h3⟩ := h
  replace h0 := h0.symm; subst h0
  replace h1 := h1.symm; subst h1
  replace h2 := h2.symm; subst h2
  replace h3 := h3.symm; subst h3
  try dsimp only
  rw [wp_bind]
  iapply (part14 W c _ _) $$ [H5 H6 H23 H24]
  · isplitl [H5]; · iexact H5
    isplitl [H6]; · iexact H6
    isplitl [H23]; · iexact H23
    iexact H24
  iintro %r ⟨%h, H5, H6, H23, H24⟩
  obtain ⟨v469, v480, v482, cst_305⟩ := r
  try dsimp only at h
  obtain ⟨h0, h1, h2, h3⟩ := h
  replace h0 := h0.symm; subst h0
  replace h1 := h1.symm; subst h1
  replace h2 := h2.symm; subst h2
  replace h3 := h3.symm; subst h3
  try dsimp only
  rw [wp_bind]
  iapply (part15 W c _ _) $$ [H23 H24]
  · isplitl [H23]; · iexact H23
    iexact H24
  iintro %r ⟨%h, H23, H24⟩
  try dsimp only at h
  have h0 := h; clear h
  replace h0 := h0.symm; subst h0
  rw [wp_bind]
  iapply (part16 W c _ _) $$ [H5 H6 H17 H18 H23 H24]
  · isplitl [H5]; · iexact H5
    isplitl [H6]; · iexact H6
    isplitl [H17]; · iexact H17
    isplitl [H18]; · iexact H18
    isplitl [H23]; · iexact H23
    iexact H24
  iintro %r ⟨%h, H5, H6, H17, H18, H23, H24⟩
  obtain ⟨v531, v532, v536, v547, v556⟩ := r
  try dsimp only at h
  obtain ⟨h0, h1, h2, h3, h4⟩ := h
  replace h0 := h0.symm; subst h0
  replace h1 := h1.symm; subst h1
  replace h2 := h2.symm; subst h2
  replace h3 := h3.symm; subst h3
  replace h4 := h4.symm; subst h4
  try dsimp only
  rw [wp_bind]
  iapply (part17 W c _ _) $$ [H5 H23 H24]
  · isplitl [H5]; · iexact H5
    isplitl [H23]; · iexact H23
    iexact H24
  iintro %r ⟨%h, H5, H23, H24⟩
  try dsimp only at h
  have h0 := h; clear h
  replace h0 := h0.symm; subst h0
  rw [wp_bind]
  iapply (part18 W c _ _) $$ [H5 H6 H23 H24]
  · isplitl [H5]; · iexact H5
    isplitl [H6]; · iexact H6
    isplitl [H23]; · iexact H23
    iexact H24
  iintro %r ⟨%h, H5, H6, H23, H24⟩
  obtain ⟨v601, v627, v630⟩ := r
  try dsimp only at h
  obtain ⟨h0, h1⟩ := h
  replace h0 := h0.symm; subst h0
  replace h1 := h1.symm; subst h1
  try dsimp only
  rw [wp_bind]
  iapply (part19 W K c _ _ _) $$ [HO H5 H23 H24 C16 A16]
  · isplitr; · iexact HC
    isplitl [HO]; · iexact HO
    isplitl [H5]; · iexact H5
    isplitl [H23]; · iexact H23
    isplitl [H24]; · iexact H24
    isplitl [C16]; · iexact C16
    iexact A16
  iintro %r ⟨HO, H5, H13, H23, H24, A16⟩
  rw [wp_bind]
  iapply (part20 W K c _ _ _) $$ [HO H6 H13 H23 H24 C17 A17]
  · isplitr; · iexact HC
    isplitl [HO]; · iexact HO
    isplitl [H6]; · iexact H6
    isplitl [H13]; · iexact H13
    isplitl [H23]; · iexact H23
    isplitl [H24]; · iexact H24
    isplitl [C17]; · iexact C17
    iexact A17
  iintro %r ⟨%h, HO, H6, H13, H14, H23, H24, A17⟩
  obtain ⟨v671, v672, v676, v687, v701, cst_441⟩ := r
  try dsimp only at h
  obtain ⟨h0, h1, h2, h3, h4, h5⟩ := h
  replace h0 := h0.symm; subst h0
  replace h1 := h1.symm; subst h1
  replace h2 := h2.symm; subst h2
  replace h3 := h3.symm; subst h3
  replace h4 := h4.symm; subst h4
  replace h5 := h5.symm; subst h5
  try dsimp only
  rw [wp_bind]
  iapply (part21 W c _ _) $$ [H5 H23 H24]
  · isplitl [H5]; · iexact H5
    isplitl [H23]; · iexact H23
    iexact H24
  iintro %r ⟨H5, H23, H24⟩
  rw [wp_bind]
  iapply (part22 W c _ _) $$ [H6 H23 H24]
  · isplitl [H6]; · iexact H6
    isplitl [H23]; · iexact H23
    iexact H24
  iintro %r ⟨%h, H6, H23, H24⟩
  obtain ⟨v741, v767, v770, v774⟩ := r
  try dsimp only at h
  obtain ⟨h0, h1, h2⟩ := h
  replace h0 := h0.symm; subst h0
  replace h1 := h1.symm; subst h1
  replace h2 := h2.symm; subst h2
  try dsimp only
  rw [wp_bind]
  iapply (part23 W K c _ _ _) $$ [HO H5 H24 C20 A20]
  · isplitr; · iexact HC
    isplitl [HO]; · iexact HO
    isplitl [H5]; · iexact H5
    isplitl [H24]; · iexact H24
    isplitl [C20]; · iexact C20
    iexact A20
  iintro %r ⟨HO, H5, H15, H24, A20⟩
  rw [wp_bind]
  iapply (part24 W K c _ _) $$ [HO H6 H15 H23 H24 C21 A21]
  · isplitr; · iexact HC
    isplitl [HO]; · iexact HO
    isplitl [H6]; · iexact H6
    isplitl [H15]; · iexact H15
    isplitl [H23]; · iexact H23
    isplitl [H24]; · iexact H24
    isplitl [C21]; · iexact C21
    iexact A21
  iintro %r ⟨%h, HO, H6, H15, H16, H23, H24, A21⟩
  obtain ⟨v811, v812, v816, v842, v844, c1_i32_534⟩ := r
  try dsimp only at h
  obtain ⟨h0, h1, h2, h3⟩ := h
  replace h0 := h0.symm; subst h0
  replace h1 := h1.symm; subst h1
  replace h2 := h2.symm; subst h2
  replace h3 := h3.symm; subst h3
  try dsimp only
  rw [wp_bind]
  iapply (part25 W c _ _ _) $$ [H5 H6 H23 H24]
  · isplitl [H5]; · iexact H5
    isplitl [H6]; · iexact H6
    isplitl [H23]; · iexact H23
    iexact H24
  iintro %r ⟨%h, H5, H6, H23, H24⟩
  try dsimp only at h
  have h0 := h; clear h
  replace h0 := h0.symm; subst h0
  rw [wp_bind]
  iapply (part26 W c _ _) $$ [H23 H24]
  · isplitl [H23]; · iexact H23
    iexact H24
  iintro %r ⟨%h, H23, H24⟩
  obtain ⟨v907, v914, v918⟩ := r
  try dsimp only at h
  obtain ⟨h0, h1, h2⟩ := h
  replace h0 := h0.symm; subst h0
  replace h1 := h1.symm; subst h1
  replace h2 := h2.symm; subst h2
  try dsimp only
  rw [wp_bind]
  iapply (part27 W K c _ _) $$ [HO H5 C22 C23 A22 A23]
  · isplitr; · iexact HC
    isplitl [HO]; · iexact HO
    isplitl [H5]; · iexact H5
    isplitl [C22]; · iexact C22
    isplitl [C23]; · iexact C23
    isplitl [A22]; · iexact A22
    iexact A23
  iintro %r ⟨%h, HO, H5, H19, H20, A22, A23⟩
  try dsimp only at h
  have h0 := h; clear h
  replace h0 := h0.symm; subst h0
  rw [wp_bind]
  iapply (part28 W c _ _) $$ [H6 H20 H23 H24]
  · isplitl [H6]; · iexact H6
    isplitl [H20]; · iexact H20
    isplitl [H23]; · iexact H23
    iexact H24
  iintro %r ⟨%h, H6, H20, H23, H24⟩
  obtain ⟨v952, v956, v982, v985, v987⟩ := r
  try dsimp only at h
  obtain ⟨h0, h1, h2, h3⟩ := h
  replace h0 := h0.symm; subst h0
  replace h1 := h1.symm; subst h1
  replace h2 := h2.symm; subst h2
  replace h3 := h3.symm; subst h3
  try dsimp only
  rw [wp_bind]
  iapply (part29 W c _ _ _) $$ [H5 H6 H24]
  · isplitl [H5]; · iexact H5
    isplitl [H6]; · iexact H6
    iexact H24
  iintro %r ⟨%h, H5, H6, H24⟩
  obtain ⟨v1021, v1024⟩ := r
  try dsimp only at h
  have h0 := h; clear h
  replace h0 := h0.symm; subst h0
  try dsimp only
  rw [wp_bind]
  iapply (part30 W c _ _ _) $$ [H23 H24]
  · isplitl [H23]; · iexact H23
    iexact H24
  iintro %r ⟨%h, H23, H24⟩
  obtain ⟨v1047, v1058, v1062⟩ := r
  try dsimp only at h
  obtain ⟨h0, h1, h2⟩ := h
  replace h0 := h0.symm; subst h0
  replace h1 := h1.symm; subst h1
  replace h2 := h2.symm; subst h2
  try dsimp only
  rw [wp_bind]
  iapply (part31 W K c _ _) $$ [HO H5 H6 C24 C25 A24 A25]
  · isplitr; · iexact HC
    isplitl [HO]; · iexact HO
    isplitl [H5]; · iexact H5
    isplitl [H6]; · iexact H6
    isplitl [C24]; · iexact C24
    isplitl [C25]; · iexact C25
    isplitl [A24]; · iexact A24
    iexact A25
  iintro %r ⟨%h, HO, H5, H6, H21, H22, A24, A25⟩
  obtain ⟨v1091, v1092, v1094⟩ := r
  try dsimp only at h
  obtain ⟨h0, h1, h2⟩ := h
  replace h0 := h0.symm; subst h0
  replace h1 := h1.symm; subst h1
  replace h2 := h2.symm; subst h2
  try dsimp only
  rw [wp_bind]
  iapply (part32 W c _ _) $$ [H23 H24]
  · isplitl [H23]; · iexact H23
    iexact H24
  iintro %r ⟨%h, H23, H24⟩
  obtain ⟨v1096, v1122, v1129⟩ := r
  try dsimp only at h
  obtain ⟨h0, h1, h2⟩ := h
  replace h0 := h0.symm; subst h0
  replace h1 := h1.symm; subst h1
  replace h2 := h2.symm; subst h2
  try dsimp only
  rw [wp_bind]
  iapply (part33 W c _ _) $$ [H5 H6 H23 H24]
  · isplitl [H5]; · iexact H5
    isplitl [H6]; · iexact H6
    isplitl [H23]; · iexact H23
    iexact H24
  iintro %r ⟨%h, H5, H6, H23, H24⟩
  obtain ⟨v1161, v1164, v1167⟩ := r
  try dsimp only at h
  obtain ⟨h0, h1⟩ := h
  replace h0 := h0.symm; subst h0
  replace h1 := h1.symm; subst h1
  try dsimp only
  rw [wp_bind]
  iapply (part34 W c _ _ _) $$ [H23 H24]
  · isplitl [H23]; · iexact H23
    iexact H24
  iintro %r ⟨%h, H23, H24⟩
  obtain ⟨v1187, v1198, v1207⟩ := r
  try dsimp only at h
  obtain ⟨h0, h1, h2⟩ := h
  replace h0 := h0.symm; subst h0
  replace h1 := h1.symm; subst h1
  replace h2 := h2.symm; subst h2
  try dsimp only
  rw [wp_bind]
  iapply (part35 W K c  _) $$ [HO H5 C2 C3 C4 C5 C6 A2 A3 A4 A5 A6]
  · isplitr; · iexact HC
    isplitl [HO]; · iexact HO
    isplitl [H5]; · iexact H5
    isplitl [C2]; · iexact C2
    isplitl [C3]; · iexact C3
    isplitl [C4]; · iexact C4
    isplitl [C5]; · iexact C5
    isplitl [C6]; · iexact C6
    isplitl [A2]; · iexact A2
    isplitl [A3]; · iexact A3
    isplitl [A4]; · iexact A4
    isplitl [A5]; · iexact A5
    iexact A6
  iintro %r ⟨HO, H5, S0, S1, S2, S3, S4, A2, A3, A4, A5, A6⟩
  try simp only [Prog.lift, Prog.bind_op, Prog.bind_ret, Prog.pure_eq_ret, Prog.bind_assoc]
  iapply (wait7 W K c) $$ [HO C7 A7]
  · isplitr; · iexact HC
    isplitl [HO]; · iexact HO
    isplitl [C7]; · iexact C7
    iexact A7
  iintro ⟨HO, A7, S5⟩
  iapply (wait8 W K c) $$ [HO C8 A8]
  · isplitr; · iexact HC
    isplitl [HO]; · iexact HO
    isplitl [C8]; · iexact C8
    iexact A8
  iintro ⟨HO, A8, S6⟩
  iapply (wait9 W K c) $$ [HO C9 A9]
  · isplitr; · iexact HC
    isplitl [HO]; · iexact HO
    isplitl [C9]; · iexact C9
    iexact A9
  iintro ⟨HO, A9, S7⟩
  iapply (wait10 W K c) $$ [HO C10 A10]
  · isplitr; · iexact HC
    isplitl [HO]; · iexact HO
    isplitl [C10]; · iexact C10
    iexact A10
  iintro ⟨HO, A10, S8⟩
  iapply (wait11 W K c) $$ [HO C11 A11]
  · isplitr; · iexact HC
    isplitl [HO]; · iexact HO
    isplitl [C11]; · iexact C11
    iexact A11
  iintro ⟨HO, A11, S9⟩
  rw [wp_ret]; imodintro
  try simp only [Prog.lift, Prog.bind_op, Prog.bind_ret, Prog.pure_eq_ret, Prog.bind_assoc]
  iapply (wait12 W K c) $$ [HO C12 A12]
  · isplitr; · iexact HC
    isplitl [HO]; · iexact HO
    isplitl [C12]; · iexact C12
    iexact A12
  iintro ⟨HO, A12, S10⟩
  iapply (wait13 W K c) $$ [HO C13 A13]
  · isplitr; · iexact HC
    isplitl [HO]; · iexact HO
    isplitl [C13]; · iexact C13
    iexact A13
  iintro ⟨HO, A13, S11⟩
  rw [wp_ret]; imodintro
  iapply Hk; unfold bodyPost
  isplitl [HO]; · iexact HO
  isplitl [AB]; · iexact AB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  iexact A25

end Cert.KernelIdealProof

end
-- ==== Proof.KernelIdeal.Ghost.lean ====
/-
  The protocol's ghost state at launch: the barrier cells funded from their counters, the kernel's own DMA cells funded
  without theirs, every duty's token dealt to the device that pays it, and the launch credit dealt to the cell that waits.
-/
module

public import proofs.«01_k».proof.Proof.KernelIdeal.Steps
public import Idealize.ShloMosaic.Lib.Rounds.Family

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (K : GSem nD τ sig → ℕ)

theorem zip {ι : Type} {s : Finset ι} {Φ Ψ : ι → sProp 𝕄} : iprop(bigSep s Φ ∗ bigSep s Ψ) ⊢ bigSep s fun i => iprop(Φ i ∗ Ψ i) :=
  Entails.of_eq (bigSep_sep' s Φ Ψ).symm
theorem unzip {ι : Type} {s : Finset ι} {Φ Ψ : ι → sProp 𝕄} : (bigSep s fun i => iprop(Φ i ∗ Ψ i)) ⊢ iprop(bigSep s Φ ∗ bigSep s Ψ) :=
  Entails.of_eq (bigSep_sep' s Φ Ψ)

/-! ## The cells and the tokens -/

/-- The kernel's own semaphores. -/
abbrev osem : Fin 26 → SemLoc sig := fun k => .dma (dS k)
theorem osem_inj : Function.Injective osem := by decide +kernel
theorem osem_ne_bar : ∀ k : Fin 26, osem k ≠ .reg barS := by decide

def barEmb : Dev nD ↪ GSem nD τ sig := ⟨fun c => barCell c, fun _ _ h => congrArg (fun g : GSem nD τ sig => g.1.1) h⟩
def dEmb : Dev nD × Fin 26 ↪ GSem nD τ sig :=
  ⟨fun x => dCell x.1 x.2, fun _ _ h =>
    Prod.ext (congrArg (fun g : GSem nD τ sig => g.1.1) h) (osem_inj (congrArg Prod.snd h))⟩
abbrev barCells : Finset (GSem nD τ sig) := Finset.univ.map barEmb
abbrev dCells : Finset (GSem nD τ sig) := Finset.univ.map dEmb

theorem cells_disjoint : Disjoint barCells dCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- Each device's tokens: one per DMA cell, two on its barrier cell. -/
abbrev tkSem : Fin 26 ⊕ Bool → SemLoc sig × Bool
  | .inl k => (osem k, false)
  | .inr b => (.reg barS, b)
theorem tkSem_inj : Function.Injective tkSem := by
  rintro (a | a) (b | b) h
  · exact congrArg Sum.inl (osem_inj (congrArg Prod.fst h))
  · exact absurd (congrArg Prod.fst h) (osem_ne_bar a)
  · exact absurd (congrArg Prod.fst h).symm (osem_ne_bar b)
  · exact congrArg Sum.inr (congrArg Prod.snd h)
def tkEmb : Dev nD × (Fin 26 ⊕ Bool) ↪ GSem nD τ sig × ℕ × Bool :=
  ⟨fun x => (((x.1 : Thread nD τ), (tkSem x.2).1), 0, (tkSem x.2).2), fun _ _ h =>
    Prod.ext (congrArg (fun t : GSem nD τ sig × ℕ × Bool => t.1.1.1) h)
      (tkSem_inj (Prod.ext (congrArg (fun t : GSem nD τ sig × ℕ × Bool => t.1.2) h) (congrArg (fun t : GSem nD τ sig × ℕ × Bool => t.2.2) h)))⟩
abbrev talkToks : Finset (GSem nD τ sig × ℕ × Bool) := Finset.univ.map tkEmb

/-- Whose cell `k` a device's own duty number `k` is on: arrivals are paid at a neighbour, everything else at home. -/
def whoE (k : Fin 26) : Dev nD ≃ Dev nD := match k.val with
  | 14 | 15 | 16 | 17 | 22 | 23 => ring
  | 18 | 19 | 20 | 21 | 24 | 25 => ring.symm
  | _ => Equiv.refl _
/-- The tokens of the DMA duties that device `c` pays. -/
def toks (c : Dev nD) : sProp 𝕄 := bigSep Finset.univ fun k : Fin 26 => tok (whoE k c) k

theorem bigSep_bool (Φ : Bool → sProp 𝕄) : bigSep Finset.univ Φ = iprop(Φ true ∗ Φ false) := by
  rw [bigSep_univ_eq_bigSepL [true, false] (by decide) (by decide), bigSepL_cons_cons, bigSepL_singleton]; rfl

/-- Every token, dealt to the device that pays the duty. -/
theorem toks_dealt :
    bigSep talkToks (fun x => (dutyTok ER x.1 x.2.1 x.2.2 : sProp 𝕄))
      ⊢ bigSep Finset.univ fun c : Dev nD => iprop(toks c ∗ dutyTok ER (barCell (lf c)) 0 true ∗ dutyTok ER (barCell (rt c)) 0 false) := by
  have e : bigSep talkToks (fun x => (dutyTok ER x.1 x.2.1 x.2.2 : sProp 𝕄))
      = bigSep Finset.univ fun c : Dev nD => iprop((bigSep Finset.univ fun k : Fin 26 => tok c k)
          ∗ dutyTok ER (barCell c) 0 true ∗ dutyTok ER (barCell c) 0 false) := by
    unfold talkToks; rw [bigSep_map, bigSep_univ_prod]
    refine bigSep_congr fun c _ => ?_
    have h := bigSep_univ_sum (fun s : Fin 26 ⊕ Bool => (dutyTok ER (tkEmb (c, s)).1 (tkEmb (c, s)).2.1 (tkEmb (c, s)).2.2 : sProp 𝕄))
    rw [bigSep_bool] at h
    exact h
  rw [e, bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄))]
  refine sep_mono_left ?_
  unfold toks
  rw [Pipeline.bigSep_univ_comm (fun (c : Dev nD) (k : Fin 26) => (tok (F := F) c k : sProp 𝕄)),
    Pipeline.bigSep_univ_comm (fun (c : Dev nD) (k : Fin 26) => (tok (F := F) (whoE k c) k : sProp 𝕄))]
  exact bigSep_mono fun k _ => Entails.of_eq (bigSep_univ_equiv (whoE k) (fun c : Dev nD => (tok (F := F) c k : sProp 𝕄)))

/-! ## The launch credit -/

/-- What device `c` owes cell `g` with `n` debts left. -/
def remN (c : Dev nD) (g : GSem nD τ sig) : ℕ → ℕ
  | 0 => 0
  | n + 1 => remN c g n + (if g = dueCell c (Fin.ofNat 14 (13 - n)) then dueAmt (Fin.ofNat 14 (13 - n)) else 0)
theorem rem_apply (c : Dev nD) (g : GSem nD τ sig) (n : ℕ) : rem c n g () = remN c g n := by
  induction n with
  | zero => rfl
  | succ n ih =>
    dsimp only [rem, remN]
    rw [Pi.add_apply, Finsupp.add_apply, ih, tallyAt_apply]
    simp

/-- A device's twelve arrivals. -/
abbrev arr : Fin 12 → Fin 26 := Fin.natAdd 14

theorem due_bar : ∀ c : Dev nD, ∑ d : Dev nD, remN d (barCell c) 14 = 2 := by decide +kernel
theorem due_arr : ∀ (c : Dev nD) (i : Fin 12), ∑ d : Dev nD, remN d (dCell c (arr i)) 14 = N := by decide +kernel

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  exact (Finset.sum_congr rfl fun d _ => rem_apply d _ 14).trans (due_bar c)
theorem launch_arr (c : Dev nD) (i : Fin 12) :
    tallyOn (dCell c (arr i)) (launchCredit (Pipeline.owing O₀) 0 (dCell c (arr i))) = (tallyAt (dCell c (arr i)) () N : CellTallies nD τ sig Unit) := by
  unfold tallyAt; refine congrArg _ (Finsupp.ext fun u => ?_); cases u
  rw [Pipeline.launchCredit_owing, Finsupp.single_eq_same]
  exact (Finset.sum_congr rfl fun d _ => rem_apply d _ 14).trans (due_arr c i)

/-- The credits of device `c`'s arrivals. -/
def creds (c : Dev nD) : sProp 𝕄 := bigSep Finset.univ fun i : Fin 12 => cr c (arr i)

def arrEmb : Fin 12 ↪ SemLoc sig := ⟨fun i => osem (arr i), fun _ _ h => Fin.natAdd_injective 12 14 (osem_inj h)⟩

theorem cred_dealt (c : Dev nD) :
    (Pipeline.launchCred O₀ c : sProp 𝕄) ⊢ iprop(cred (tallyAt (barCell c) () 2) ∗ creds c) := by
  unfold Pipeline.launchCred
  rw [bigSep_univ_at _ (SemLoc.reg barS), launch_bar]
  refine sep_mono_right ?_
  have hs : (Finset.univ.map arrEmb : Finset (SemLoc sig)) ⊆ Finset.univ.erase (SemLoc.reg barS) := fun s h => by
    obtain ⟨i, -, rfl⟩ := Finset.mem_map.mp h
    exact Finset.mem_erase.mpr ⟨osem_ne_bar _, Finset.mem_univ _⟩
  refine (bigSep_subset hs).trans ?_
  rw [bigSep_map]
  unfold creds
  refine bigSep_mono fun i _ => ?_
  have e : cr (F := F) c (arr i) = cred (tallyAt (dCell c (arr i)) () N) := by
    unfold cr; rw [if_neg (by simp [arr]; omega)]
  rw [e, ← launch_arr]
  exact BI.Entails.refl _

/-! ## What a device brings to the region, and what it makes of it -/

/-- The right to open each of a device's own DMA cells. -/
def opens (c : Dev nD) : sProp 𝕄 := bigSep Finset.univ fun k : Fin 26 => openTok ER (dCell c k)

/-- What stays with device `c`: its barrier position, its rights to open, the tokens of the duties it pays. -/
def linear (c : Dev nD) : sProp 𝕄 :=
  iprop(atPos ER (barCell c) 0 ∅ 0 ∗ opens c ∗ (toks c ∗ dutyTok ER (barCell (lf c)) 0 true ∗ dutyTok ER (barCell (rt c)) 0 false))
/-- What every device may consult. -/
def records : sProp 𝕄 := iprop(ctx W K ∗ bigSep Finset.univ fun c : Dev nD => reached ER (barCell c) 0)
instance records_persistent : BI.Persistent (records W K) := by unfold records; infer_instance

/-- What the launch keeps for the region. -/
def Tk (c : Dev nD) : sProp 𝕄 := iprop((∃ K, records W K ∗ linear c) ∗ cred (tallyAt (barCell c) () 2) ∗ creds c)

/-- What enters the region's invariant: the cells opened. -/
def Xk (c : Dev nD) : sProp 𝕄 :=
  iprop(∃ K, ctx W K ∗ ownReached c ∗ reached ER (barCell (lf c)) 0 ∗ reached ER (barCell (rt c)) 0
    ∗ atPos ER (barCell c) 0 ∅ 0 ∗ (bigSep Finset.univ fun k : Fin 26 => at0 c k)
    ∗ (toks c ∗ dutyTok ER (barCell (lf c)) 0 true ∗ dutyTok ER (barCell (rt c)) 0 false)
    ∗ cred (tallyAt (barCell c) () 2) ∗ creds c)

theorem reached_bar (c : Dev nD) : (bigSep Finset.univ fun c : Dev nD => (reached ER (barCell c) 0 : sProp 𝕄)) ⊢ reached ER (barCell c) 0 :=
  bigSep_elim (Finset.mem_univ c)

/-- Device `c`'s own cells' invariants. -/
theorem ctx_own (c : Dev nD) : ctx W K ⊢ bigSep Finset.univ fun k : Fin 26 => (cellInv ER (talk W) (K (dCell c k)) (dCell c k) : sProp 𝕄) :=
  (bigSep_of_persistent Finset.univ (ctx W K)).trans (bigSep_mono fun k _ => ctx_d W K c k)

/-- The region's entry: the counters go in, every own cell opens. -/
theorem hopen (c : Dev nD) : iprop(Tk W c ∗ Pipeline.ownSems0 osem c ∗ levAts L lv) ⊢ (|={Set.univ}=> Xk W c : sProp 𝕄) := by
  unfold Tk Xk records linear Pipeline.ownSems0
  iintro ⟨⟨⟨%K, ⟨#HC, #HR⟩, AB, HO, HT⟩, CB, CR⟩, HS, -⟩
  imod (Rounds.cells_open ER (talk W) (Finset.univ : Finset (Fin 26)) (fun k => dCell c k) (fun k => K (dCell c k)) (Es := Set.univ) (fun _ _ => Set.mem_univ _)) $$ [HO HS] with H
  · isplitr [HS]
    · iapply zip
      isplitr
      · iapply (ctx_own W K c); iexact HC
      · unfold opens; iexact HO
    · iexact HS
  imodintro
  ihave H' := unzip $$ H
  icases H' with ⟨HA, #HOR⟩
  iexists K
  isplitr; · iexact HC
  isplitr; · unfold ownReached; iexact HOR
  isplitr; · iapply (reached_bar (F := F) (lf c)); iexact HR
  isplitr; · iapply (reached_bar (F := F) (rt c)); iexact HR
  isplitl [AB]; · iexact AB
  isplitl [HA]; · iexact HA
  isplitl [HT]; · iexact HT
  isplitl [CB]; · iexact CB
  iexact CR

/-! ## The global launch step -/

/-- The launch element: the pipeline library's at its staging cells, the protocol's at its own. -/
def u₀ : UU :=
  (initOf (Pipeline.cells (Pipeline.pin (pcfgs (F := F)) fun p => (cfgs p).toPCfg_adm) cellOf_inj) (Pipeline.launchToks (Pipeline.pin (pcfgs (F := F)) fun p => (cfgs p).toPCfg_adm) cellOf_inj),
    launchOf barCells dCells talkToks)

/-- A resource parked whole on device 0. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf barCells dCells talkToks)))

/-- From every device's barrier counter at zero and the launch element: the records, and each device's share. -/
theorem fund : iprop((bigSep Finset.univ fun c : Dev nD => (semVal (barCell c) 0 : sProp 𝕄)) ∗ bigSep Finset.univ (G (F := F)) ∗ levAts L lv)
    ⊢ (|={Set.univ}=> ∃ K, records W K ∗ bigSep Finset.univ fun c : Dev nD => linear c : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep dCells (fun g => (openTok ER g : sProp 𝕄)) ⊢ bigSep Finset.univ (fun c : Dev nD => opens c) :=
    Entails.of_eq (by rw [bigSep_map, bigSep_univ_prod]; rfl)
  have hiv (κ : GSem nD τ sig → ℕ) : bigSep (barCells ∪ dCells) (fun g => (cellInv ER (talk W) (κ g) g : sProp 𝕄))
      ⊢ iprop((bigSep Finset.univ fun c : Dev nD => cellInv ER (talk W) (κ (barCell c)) (barCell c))
        ∗ (bigSep Finset.univ fun ck : Dev nD × Fin 26 => cellInv ER (talk W) (κ (dCell ck.1 ck.2)) (dCell ck.1 ck.2))) :=
    Entails.of_eq (by rw [bigSep_union cells_disjoint, bigSep_map, bigSep_map]; rfl)
  iintro ⟨Hv, HG, #HL⟩
  ihave Hu := (show bigSep Finset.univ (G (F := F)) ⊢ BI.own (ER (launchOf barCells dCells talkToks)) from
    Entails.of_eq (bigSep_parked (F := F) (BI.own (ER (launchOf barCells dCells talkToks))))) $$ HG
  imod (Rounds.fund_launch ER (talk W) cells_disjoint (fun g _ h => h) talkToks) $$ [Hv Hu] with ⟨%κ, -, #Hinv, #Hr, Hat, Hopen, Htok⟩
  · isplitl [Hv]
    · iapply hv $$ Hv
    · iexact Hu
  imodintro
  iexists κ
  unfold records ctx linear
  ihave Hi := (hiv κ) $$ Hinv
  icases Hi with ⟨#HI1, #HI2⟩
  isplitr
  · isplitr
    · isplitr; · iexact HI1
      isplitr; · iexact HI2
      iexact HL
    · iapply hre $$ Hr
  iapply zip; isplitl [Hat]; · iapply hat $$ Hat
  iapply zip; isplitl [Hopen]; · iapply hop $$ Hopen
  iapply (toks_dealt (F := F)) $$ Htok

end Cert.KernelIdealProof

end
-- ==== Proof.KernelIdeal.Assemble.lean ====
/-
  The region's invariant taken apart for the body, and put together again after it: the scoped buffers, the cells, the tokens
  and the credits, each in the order the body's statement has them, and the shares of the weights joined.
-/
module

public import proofs.«01_k».proof.Proof.KernelIdeal.Body
public import proofs.«01_k».proof.Proof.KernelIdeal.Ghost

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → Valuation τ sig (Elt F)) (K : GSem nD τ sig → ℕ)

omit [FloatOps F] in
/-- A family of 12 assertions written out. -/
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

omit [FloatOps F] in
/-- A family of 26 assertions written out. -/
theorem bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

/-- The scoped buffers no window stages, at contents not chosen. -/
def scAny (c : Dev nD) : sProp 𝕄 := iprop(any c cc0_scratch0 ∗ any c cc0_scratch1 ∗ any c cc0_scratch2 ∗ any c cc0_scratch3 ∗ any c cc0_scratch4 ∗ any c cc0_scratch5 ∗ any c cc0_scratch6 ∗ any c cc0_scratch7 ∗ any c cc0_scratch8 ∗ any c cc0_scratch9 ∗ any c cc0_scratch10 ∗ any c cc0_scratch11 ∗ any c cc0_scratch12 ∗ any c cc0_scratch13 ∗ any c cc0_scratch14 ∗ any c cc0_scratch15 ∗ any c cc0_scratch16 ∗ any c cc0_scratch17 ∗ any c cc0_scratch18)

/-- The windows' staging buffers before the body. -/
def stgs (c : Dev nD) : sProp 𝕄 := iprop(pt fullShare c cc0_stg0_0 (xV W c) ∗ pt fullShare c cc0_stg1_0 (wqV W c) ∗ pt fullShare c cc0_stg2_0 (woV W c) ∗ any c cc0_stg3_0)
/-- The same after it. -/
def stgs' (c : Dev nD) : sProp 𝕄 := iprop(pt fullShare c cc0_stg0_0 (xV W c) ∗ pt fullShare c cc0_stg1_0 (wqV W c) ∗ pt fullShare c cc0_stg2_0 (woV W c) ∗ pt fullShare c cc0_stg3_0 (joinB (s75 W c) (s81 W c)))
/-- The keys and the values. -/
def kvs (c : Dev nD) : sProp 𝕄 := iprop(pt fullShare c main_v16 (kV W c) ∗ pt fullShare c main_v18 (vV W c))

set_option maxHeartbeats 4000000 in
/-- What the invariant holds, with the windows' buffers and the debt, is what the body starts from. -/
theorem pre_intro (c : Dev nD) :
    iprop(Xk W c ∗ scAny c ∗ kvs W c ∗ debt c 14 ∗ stgs W c) ⊢ (iprop(∃ K, ctx W K ∗ bodyPre W K c) : sProp 𝕄) := by
  unfold Xk scAny kvs stgs

  iintro ⟨⟨%K, #HC, #OC, #RL, #RR, AB, HA, ⟨HT, TL, TR⟩, CB, HCr⟩, ⟨S0, S1, S2, S3, S4, S5, S6, S7, S8, S9, S10, S11, S12, S13, S14, S15, S16, S17, S18⟩, ⟨HK, HV⟩, HO, G0, G1, G2, G3⟩
  ihave HA' := (Entails.of_eq (bigSep_fin26 (fun k : Fin 26 => at0 (F := F) c k))) $$ HA
  icases HA' with ⟨A0, A1, A2, A3, A4, A5, A6, A7, A8, A9, A10, A11, A12, A13, A14, A15, A16, A17, A18, A19, A20, A21, A22, A23, A24, A25⟩
  unfold toks creds
  ihave HT' := (Entails.of_eq (bigSep_fin26 (fun k : Fin 26 => tok (F := F) (whoE k c) k))) $$ HT
  icases HT' with ⟨T0, T1, T2, T3, T4, T5, T6, T7, T8, T9, T10, T11, T12, T13, T14, T15, T16, T17, T18, T19, T20, T21, T22, T23, T24, T25⟩
  ihave HC' := (Entails.of_eq (bigSep_fin12 (fun i : Fin 12 => cr (F := F) c (arr i)))) $$ HCr
  icases HC' with ⟨C0, C1, C2, C3, C4, C5, C6, C7, C8, C9, C10, C11⟩
  iexists K
  isplitr; · iexact HC
  unfold bodyPre barL barR
  isplitr; · iexact HC
  isplitr; · iexact OC
  isplitr; · iexact RL
  isplitr; · iexact RR
  isplitl [HO]; · iexact HO
  isplitl [TL]; · iexact TL
  isplitl [TR]; · iexact TR
  isplitl [S9 S10 S11 S12 S15 S16]
  · isplitl [S9]; · iexact S9
    isplitl [S10]; · iexact S10
    isplitl [S11]; · iexact S11
    isplitl [S12]; · iexact S12
    isplitl [S15]; · iexact S15
    isplitl [S16]; · iexact S16
    iexact OC
  isplitl [S5 S6 S7 S8 S13 S14]
  · isplitl [S5]; · iexact S5
    isplitl [S6]; · iexact S6
    isplitl [S7]; · iexact S7
    isplitl [S8]; · iexact S8
    isplitl [S13]; · iexact S13
    isplitl [S14]; · iexact S14
    iexact OC
  isplitl [CB]; · iexact CB
  isplitl [AB]; · iexact AB
  isplitl [G0]; · iexact G0
  isplitl [G1]; · iexact G1
  isplitl [HK]; · iexact HK
  isplitl [HV]; · iexact HV
  isplitl [G2]; · iexact G2
  isplitl [G3]; · iexact G3
  isplitl [S0]; · iexact S0
  isplitl [S1]; · iexact S1
  isplitl [S2]; · iexact S2
  isplitl [S3]; · iexact S3
  isplitl [S4]; · iexact S4
  isplitl [S17]; · iexact S17
  isplitl [S18]; · iexact S18
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  iexact T25

/-- Every DMA cell of a device closed. -/
theorem close_all (c : Dev nD) :
    iprop(ctx W K ∗ bigSep Finset.univ fun k : Fin 26 => at1 c k) ⊢ (|={Set.univ}=> bigSep Finset.univ fun k : Fin 26 => semVal (dCell c k) 0 : sProp 𝕄) :=
  (bigSep_with_persistent fun k _ => close_d W K c k).trans (bigSep_fupd _ _)

omit [FloatOps F] in
/-- A buffer held in three shares is held whole; one held in two. -/
theorem whole3 (c : Dev nD) (r : Ref sig .tc) (f : r.ty.Contents (Elt F)) :
    iprop(pt h0 c r f ∗ pt h1 c r f ∗ pt h2 c r f) ⊢ (any c r : sProp 𝕄) := by
  iintro ⟨A, B, C⟩
  iapply (any_intro c r f)
  iapply (unite fullShare c r f)
  isplitl [A]; · iexact A
  iapply (unite fullShare.right c r f)
  isplitl [B] <;> iassumption
omit [FloatOps F] in
theorem whole2 (c : Dev nD) (r : Ref sig .tc) (f : r.ty.Contents (Elt F)) :
    iprop(pt h0 c r f ∗ pt hr c r f) ⊢ (any c r : sProp 𝕄) := by
  iintro ⟨A, B⟩
  iapply (any_intro c r f)
  iapply (unite fullShare c r f)
  isplitl [A] <;> iassumption

set_option maxHeartbeats 4000000 in
/-- What the body leaves, its cells closed and its shares joined. -/
theorem post_elim (c : Dev nD) :
    iprop(ctx W K ∗ bodyPost W c) ⊢ (|={Set.univ}=> (debt c 0 ∗ stgs' W c ∗ scAny c ∗ kvs W c ∗ semVal (barCell c) 0 ∗ bigSep Finset.univ fun k : Fin 26 => semVal (dCell c k) 0) : sProp 𝕄) := by
  unfold bodyPost
  iintro ⟨#HC, HO, AB, G0, G1, HK, HV, G2, G3, S0, S1, S2, S3, S4, S5, S6, S7, S8, S9, S10, S11, S12, S13, S14, S15, S16, S17, S18, X1, X3, X2, X4, Y2, Y4, Y1, Y3, X5, X6, X11, X12, A0, A1, A2, A3, A4, A5, A6, A7, A8, A9, A10, A11, A12, A13, A14, A15, A16, A17, A18, A19, A20, A21, A22, A23, A24, A25⟩
  imod (close_bar W K c) $$ [AB] with HB
  · isplitr; · iexact HC
    iexact AB
  imod (close_all W K c) $$ [A0 A1 A2 A3 A4 A5 A6 A7 A8 A9 A10 A11 A12 A13 A14 A15 A16 A17 A18 A19 A20 A21 A22 A23 A24 A25] with HD
  · isplitr; · iexact HC
    iapply (Entails.of_eq (bigSep_fin26 (fun k : Fin 26 => at1 (F := F) c k)).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    iexact A25
  imodintro
  unfold stgs' scAny kvs
  isplitl [HO]; · iexact HO
  isplitl [G0 G1 G2 G3]
  · isplitl [G0]; · iexact G0
    isplitl [G1]; · iexact G1
    isplitl [G2] <;> iassumption
  isplitl [S0 S1 S2 S3 S4 S5 S6 S7 S8 S9 S10 S11 S12 S13 S14 S15 S16 S17 S18 X1 X3 X2 X4 Y2 Y4 Y1 Y3 X5 X6 X11 X12]
  · isplitl [S0]
    · iapply (any_intro c cc0_scratch0 _)
      iexact S0
    isplitl [X1 Y1 S1]
    · iapply (whole3 c cc0_scratch1 _) $$ [X1 Y1 S1]
      isplitl [X1]; · iexact X1
      isplitl [Y1]; · iexact Y1
      iexact S1
    isplitl [X2 Y2 S2]
    · iapply (whole3 c cc0_scratch2 _) $$ [X2 Y2 S2]
      isplitl [X2]; · iexact X2
      isplitl [Y2]; · iexact Y2
      iexact S2
    isplitl [X3 Y3 S3]
    · iapply (whole3 c cc0_scratch3 _) $$ [X3 Y3 S3]
      isplitl [X3]; · iexact X3
      isplitl [Y3]; · iexact Y3
      iexact S3
    isplitl [X4 Y4 S4]
    · iapply (whole3 c cc0_scratch4 _) $$ [X4 Y4 S4]
      isplitl [X4]; · iexact X4
      isplitl [Y4]; · iexact Y4
      iexact S4
    isplitl [X5 S5]
    · iapply (whole2 c cc0_scratch5 _) $$ [X5 S5]
      isplitl [X5]; · iexact X5
      iexact S5
    isplitl [X6 S6]
    · iapply (whole2 c cc0_scratch6 _) $$ [X6 S6]
      isplitl [X6]; · iexact X6
      iexact S6
    isplitl [S7]
    · iapply (any_intro c cc0_scratch7 _)
      iexact S7
    isplitl [S8]
    · iapply (any_intro c cc0_scratch8 _)
      iexact S8
    isplitl [S9]
    · iapply (any_intro c cc0_scratch9 _)
      iexact S9
    isplitl [S10]
    · iapply (any_intro c cc0_scratch10 _)
      iexact S10
    isplitl [X11 S11]
    · iapply (whole2 c cc0_scratch11 _) $$ [X11 S11]
      isplitl [X11]; · iexact X11
      iexact S11
    isplitl [X12 S12]
    · iapply (whole2 c cc0_scratch12 _) $$ [X12 S12]
      isplitl [X12]; · iexact X12
      iexact S12
    isplitl [S13]
    · iapply (any_intro c cc0_scratch13 _)
      iexact S13
    isplitl [S14]
    · iapply (any_intro c cc0_scratch14 _)
      iexact S14
    isplitl [S15]
    · iapply (any_intro c cc0_scratch15 _)
      iexact S15
    isplitl [S16]
    · iapply (any_intro c cc0_scratch16 _)
      iexact S16
    isplitl [S17]
    · iapply (any_intro c cc0_scratch17 _)
      iexact S17
    iapply (any_intro c cc0_scratch18 _)
    iexact S18
  isplitl [HK HV]; · isplitl [HK] <;> iassumption
  isplitl [HB]; · iexact HB
  iexact HD

end Cert.KernelIdealProof

end
-- ==== Proof.KernelIdeal.Launch.lean ====
/-
  The whole program: the host operations, the region that runs the body on every device, and what every device's buffers
  hold when it ends.
-/
module

public import proofs.«01_k».proof.Proof.KernelIdeal.Assemble
public import proofs.«01_k».proof.Proof.Gen.KernelIdeal.Points
public import proofs.«01_k».proof.Proof.Gen.KernelIdeal.Regions
public import Idealize.ShloMosaic.Lib.Pipeline.Value
public import Idealize.ShloMosaic.Lib.Quiescent

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ UU ℕ

variable (m : (ℓ : Loc nD τ sig) → Buf (Elt F) ℓ)

/-! ## The region's proof data -/

/-- What the body leaves in the result. -/
def outV (c : Dev nD) : CF F := joinB (s75 (V1 m) c) (s81 (V1 m) c)

/-- Every buffer after the region: the result written, the rest as the host operations left them. -/
def Wend (c : Dev nD) : Valuation τ sig (Elt F) := Function.update (V1 m c) main_v19 (outV m c)

theorem Wend_v19 (c : Dev nD) : Wend m c main_v19 = outV m c := Function.update_self ..
theorem Wend_of (c : Dev nD) (r : Ref sig .tc) (h : r ≠ main_v19) : Wend m c r = V1 m c r :=
  Function.update_of_ne (StableHlo.devRef_ne_of_ne h) ..

/-- The invariant before the body's one point and after it. -/
def Φ₀ (c : Dev nD) : sProp 𝕄 := iprop(Xk (V1 m) c ∗ scAny c ∗ kvs (V1 m) c ∗ ∃ r, prngReg c r)
def Φ₁ (c : Dev nD) : sProp 𝕄 :=
  iprop(semVal (barCell c) 0 ∗ (bigSep Finset.univ fun k : Fin 26 => semVal (dCell c k) 0) ∗ scAny c ∗ kvs (V1 m) c ∗ ∃ r, prngReg c r)

/-- The proof data: the arrays as the host operations left them; after the body the inputs as fetched and the result computed;
    what the launch owes before, nothing after. -/
def dat0 (c : Dev nD) : Dat τ (Elt F) Unit ℕ UU ℕ cfg0 c where
  A w := V1 m c (Proc.devRef .tc (Pipeline.arrRef spec0 w))
  after w _ := match w with
    | ⟨0, _⟩ => xV (V1 m) c
    | ⟨1, _⟩ => wqV (V1 m) c
    | ⟨2, _⟩ => woV (V1 m) c
    | ⟨3, _⟩ => outV m c
  Φ t := if t.val = 0 then Φ₀ m c else Φ₁ m c
  q _ := fullShare
  owed t := if t.val = 0 then O₀ c else 0

/-- The one region's. -/
def pdats : (p : Fin 1) → (c : Dev nD) → Dat τ (Elt F) Unit ℕ UU ℕ (Pipeline.pin (pcfgs (F := F)) adm p) c
  | 0 => dat0 m

/-! ## The windows: each is its whole array -/

theorem off_zero (w : Fin 4) (a) : (cfg0.win w).kind.off ((cfg0.win w).index t0_0 a) ((cfg0.win w).size a) = 0 := by
  fin_cases w <;> fin_cases a <;> decide

theorem read0 (g : FVec F S2x128x512 .f32) : ((cfg0.win 0).blk t0_0).view.read (Elt F) g = g := by
  funext i
  refine congrArg g (funext fun a => Fin.ext ?_)
  refine (Pipeline.Window.rect_emb_val_off (cfg0.win 0) t0_0 i a).trans ?_
  rw [off_zero, Nat.zero_add]
theorem read1 (g : FVec F S512x256 .f32) : ((cfg0.win 1).blk t0_0).view.read (Elt F) g = g := by
  funext i
  refine congrArg g (funext fun a => Fin.ext ?_)
  refine (Pipeline.Window.rect_emb_val_off (cfg0.win 1) t0_0 i a).trans ?_
  rw [off_zero, Nat.zero_add]
theorem read2 (g : FVec F S256x512 .f32) : ((cfg0.win 2).blk t0_0).view.read (Elt F) g = g := by
  funext i
  refine congrArg g (funext fun a => Fin.ext ?_)
  refine (Pipeline.Window.rect_emb_val_off (cfg0.win 2) t0_0 i a).trans ?_
  rw [off_zero, Nat.zero_add]
theorem read3 (g : FVec F S2x128x512 .f32) : ((cfg0.win 3).blk t0_0).view.read (Elt F) g = g := by
  funext i
  refine congrArg g (funext fun a => Fin.ext ?_)
  refine (Pipeline.Window.rect_emb_val_off (cfg0.win 3) t0_0 i a).trans ?_
  rw [off_zero, Nat.zero_add]

/-- What the body finds in each input's staging buffer. -/
theorem before0 (c : Dev nD) (d) : (dat0 m c).before 0 t0_0 d = xV (V1 m) c := by
  unfold Pipeline.Dat.before; rw [if_pos (fetch0_0 t0_0)]; exact read0 (xV (V1 m) c)
theorem before1 (c : Dev nD) (d) : (dat0 m c).before 1 t0_0 d = wqV (V1 m) c := by
  unfold Pipeline.Dat.before; rw [if_pos (fetch0_1 t0_0)]; exact read1 (wqV (V1 m) c)
theorem before2 (c : Dev nD) (d) : (dat0 m c).before 2 t0_0 d = woV (V1 m) c := by
  unfold Pipeline.Dat.before; rw [if_pos (fetch0_2 t0_0)]; exact read2 (woV (V1 m) c)

/-- What the arrays hold after the run. -/
theorem arr_end (c : Dev nD) (w : Fin 4) : (dat0 m c).arrAt w cfg0.N = Wend m c (Proc.devRef .tc (Pipeline.arrRef spec0 w)) := by
  fin_cases w
  · exact ((dat0 m c).arrAt_in 0 rfl _).trans (Wend_of m c main_arg0 (by decide)).symm
  · exact ((dat0 m c).arrAt_in 1 rfl _).trans (Wend_of m c main_arg1 (by decide)).symm
  · exact ((dat0 m c).arrAt_in 2 rfl _).trans (Wend_of m c main_arg4 (by decide)).symm
  · refine Eq.trans ?_ (Wend_v19 m c).symm
    have h := (dat0 m c).read_blk_arrAt_eq_flushed 3 (fun t t' _ _ hne => absurd ((fin_N0 t).trans (fin_N0 t').symm) hne) cfg0.N t0_0 t0_0.isLt (flush0_3 t0_0)
    exact (read3 _).symm.trans h

/-! ## The body obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owes_in (c : Dev nD) : (dat0 m c).owesAt () t0_0.castSucc ⊢ (debt c 14 : sProp 𝕄) := by
  unfold Dat.owesAt Pipeline.owesWithin debt
  rw [show (dat0 m c).owed t0_0.castSucc = rem c 14 from rfl]
  iintro ⟨%Wt, -, HO⟩
  iexists Wt; iexact HO
theorem owes_out (c : Dev nD) : (debt c 0 : sProp 𝕄) ⊢ (dat0 m c).owesAt () t0_0.succ := by
  unfold Dat.owesAt Pipeline.owesWithin Dat.bound debt
  rw [show (dat0 m c).owed t0_0.succ = rem c 0 from rfl, show (dat0 m c).recorded t0_0.succ = Set.univ from rfl]
  iintro ⟨%Wt, HO⟩
  iexists Wt
  isplitr; · ipureintro; exact fun _ _ => Or.inl trivial
  iexact HO

set_option maxRecDepth 4000 in
/-- The body on a device meets what the pipeline asks of it. -/
theorem body_obligation (c : Dev nD) : BodyObligation (dat0 (F := F) m c) (defs₀ (F := F)) 𝒱₀ () Set.univ := fun t => by
  obtain rfl := fin_N0 t
  rw [bigSep_W0, bigSep_W0]
  simp only [owns_whole]
  rw [show (dat0 m c).Φ t0_0.castSucc = Φ₀ m c from rfl, show (dat0 m c).Φ t0_0.succ = Φ₁ m c from rfl]
  unfold Φ₀
  iintro ⟨⟨HX, HS, HKV, HP⟩, HO, ⟨%d0, %f0, %hf0, H0⟩, ⟨%d1, %f1, %hf1, H1⟩, ⟨%d2, %f2, %hf2, H2⟩, ⟨%d3, %f3, %hf3, H3⟩⟩
  rw [before0] at hf0
  rw [before1] at hf1
  rw [before2] at hf2
  subst hf0 hf1 hf2
  ihave HO := (owes_in m c) $$ HO
  ihave Hpre := (pre_intro (V1 m) c) $$ [HX HS HKV HO H0 H1 H2 H3]
  · isplitl [HX]; · iexact HX
    isplitl [HS]; · iexact HS
    isplitl [HKV]; · iexact HKV
    isplitl [HO]; · iexact HO
    unfold stgs
    isplitl [H0]; · iexact H0
    isplitl [H1]; · iexact H1
    isplitl [H2]; · iexact H2
    iapply (any_intro c cc0_stg3_0 f3); iexact H3
  icases Hpre with ⟨%K, #HC, Hpre⟩
  iapply (wp_fupd frame (wpE (defs₀ (F := F)) 𝒱₀ (c : Thread nD τ) none) Set.univ _ _)
  iapply (body_run (V1 m) K c _) $$ Hpre
  iintro Hpost
  imod (post_elim (V1 m) K c) $$ [Hpost] with ⟨HO, HG, HS, HKV, HB, HD⟩
  · isplitr; · iexact HC
    iexact Hpost
  imodintro
  unfold Φ₁ stgs'
  icases HG with ⟨H0, H1, H2, H3⟩
  isplitl [HB HD HS HKV HP]
  · isplitl [HB]; · iexact HB
    isplitl [HD]; · iexact HD
    isplitl [HS]; · iexact HS
    isplitl [HKV] <;> iassumption
  isplitl [HO]; · iapply (owes_out m c); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.KernelIdealProof

end
-- ==== Proof.KernelIdeal.Run.lean ====
/-
  The run of the whole program: the region's record, the launch, and what every fair execution ends with.
-/
module

public import proofs.«01_k».proof.Proof.KernelIdeal.Launch

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

/-- The buffers the region takes besides its windows' arrays, and those of them the body reads itself. -/
abbrev Sr : Finset (DevRef τ sig) := Pipeline.ucRefs τ sig \ Pipeline.arrRefs (τ := τ) spec0
abbrev Hs : Finset (DevRef τ sig) := {Proc.devRef .tc main_v16, Proc.devRef .tc main_v18}

theorem Hs_sub : Hs ⊆ Sr := by
  intro b hb
  rcases Finset.mem_insert.mp hb with rfl | hb
  · exact Finset.mem_sdiff.mpr ⟨Finset.mem_filter.mpr ⟨StableHlo.devRef_mem_tcRefs main_v16, by decide⟩, by decide⟩
  · obtain rfl := Finset.mem_singleton.mp hb
    exact Finset.mem_sdiff.mpr ⟨Finset.mem_filter.mpr ⟨StableHlo.devRef_mem_tcRefs main_v18, by decide⟩, by decide⟩

theorem v19_arr : (Proc.devRef .tc main_v19 : DevRef τ sig) ∈ Pipeline.arrRefs (τ := τ) spec0 := by decide

theorem Wend_rest (c : Dev nD) : ∀ b ∈ Sr \ Hs, Wend m c b = V1 m c b := fun b hb =>
  Function.update_of_ne (fun h => (Finset.mem_sdiff.mp (Finset.mem_sdiff.mp hb).1).2 (by rw [h]; exact v19_arr)) ..

/-- The keys and values, as the region holds them. -/
theorem held_kv (c : Dev nD) (V : Valuation τ sig (Elt F)) :
    (StableHlo.held (c : Thread nD τ) Hs V : sProp 𝕄) = iprop(pt fullShare c main_v16 (V main_v16) ∗ pt fullShare c main_v18 (V main_v18)) := by
  unfold StableHlo.held
  rw [bigSep_insert (by decide), BI.bigSep_singleton]
  rfl

omit [FloatOps F] in
/-- The scoped buffers no window stages. -/
theorem rest_scoped (c : Dev nD) : (Pipeline.scopedRest spec0 c : sProp 𝕄) = scAny c := by
  rw [scopedRest0_eq]; unfold scAny any; rfl

/-- The staging waits are at the bottom level. -/
theorem stage_lv : ∀ (w : Fin 4) (s : Fin (win0 w).nbuf), lvS (.dma ((win0 w).sem s)) ≤ 0 := by decide

theorem own_eq (c : Dev nD) : (Pipeline.ownSems0 osem c : sProp 𝕄) = bigSep Finset.univ fun k : Fin 26 => semVal (dCell c k) 0 := rfl

/-- What is owed at any point is owed above the staging waits. -/
theorem owed_above (c : Dev nD) (t : Fin (cfg0.N + 1)) (g : GSem nD τ sig) (i : Unit) (h : 0 < (dat0 (F := F) m c).owed t g i) :
    i ∈ L g ∧ 0 < lv g i := by
  have h' : 0 < (if t.val = 0 then O₀ c else 0 : CellTallies nD τ sig Unit) g i := h
  split at h'
  · obtain ⟨j, hj, rfl⟩ := rem_pos h'
    refine ⟨?_, ?_⟩
    · unfold L; rw [if_pos (dueCell_tc c _)]; cases i; exact Finset.mem_singleton_self _
    · show 0 < lvS (dueCell c _).2
      rw [dueCell_lv]; split_ifs <;> decide
  · exact absurd h' (Nat.lt_irrefl 0)

theorem hin (c : Dev nD) :
    iprop(Pipeline.scopedRest spec0 c ∗ (∃ r, prngReg c r) ∗ StableHlo.held (c : Thread nD τ) Hs (V1 m c) ∗ Xk (V1 m) c) ⊢ (Φ₀ m c : sProp 𝕄) := by
  rw [held_kv, rest_scoped]
  unfold Φ₀ kvs
  iintro ⟨HS, HP, HH, HX⟩
  isplitl [HX]; · iexact HX
  isplitl [HS]; · iexact HS
  isplitl [HH]; · iexact HH
  iexact HP
theorem hout (c : Dev nD) :
    (Φ₁ m c : sProp 𝕄) ⊢ iprop(Pipeline.scopedRest spec0 c ∗ (∃ r, prngReg c r) ∗ StableHlo.held (c : Thread nD τ) Hs (Wend m c)
      ∗ Pipeline.ownSems0 osem c ∗ semVal (barCell c) 0) := by
  rw [held_kv, rest_scoped, Wend_of m c main_v16 (by decide), Wend_of m c main_v18 (by decide), own_eq]
  unfold Φ₁ kvs
  iintro ⟨HB, HD, HS, HH, HP⟩
  isplitl [HS]; · iexact HS
  isplitl [HP]; · iexact HP
  isplitl [HH]; · iexact HH
  isplitl [HD]; · iexact HD
  iexact HB

set_option backward.isDefEq.respectTransparency.types false in
/-- The region's record. -/
def reg0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub launch0.toP rfl (fun c => (body_obligation m c).loose)
    (fun _ => 0) O₀ (fun c => (zero_add (O₀ c)).symm) (fun _ => rfl) (fun _ => rfl) (fun c => (dat0 m c).share_full fun _ => rfl)
    (V1 m) (Wend m) (Wend_rest m)
    (Tk (V1 m)) (fun c => semVal (barCell c) 0) (Xk (V1 m)) (fun c => semVal (barCell c) 0) (hopen (V1 m)) (hin m) (hout m)
    (fun c => by iintro H; imodintro; iexact H)
    (fun _ => 0)
    ⟨fun c w s => by rw [L_tc]; exact Finset.mem_singleton_self _, fun c w s => stage_lv w s, fun c t g i h => owed_above m c t g i h⟩
    (fun _ => iprop(emp))
    (fun _ _ => rfl) (arr_end m)

/-! ## The run -/

/-- What rides beside a device's buffers: before the region and after it. -/
def rest : Fin 2 → Dev nD → sProp 𝕄
  | 0, c => iprop((∃ r, prngReg c r) ∗ Tk (V1 m) c ∗ ∃ Wd, owes (c : Thread nD τ) (O₀ c) Wd)
  | 1, c => iprop(semVal (barCell c) 0 ∗ ∃ Wd, owes (c : Thread nD τ) (0 : CellTallies nD τ sig Unit) Wd)

theorem arr_sub : Pipeline.arrRefs (τ := τ) spec0 ⊆ Pipeline.ucRefs τ sig := Pipeline.arrRefs_sub_ucRefs spec0 (by decide)

set_option backward.isDefEq.respectTransparency.types false in
theorem pre_of (c : Dev nD) : iprop(StableHlo.held (c : Thread nD τ) (Pipeline.ucRefs τ sig) (V1 m c) ∗ rest m 0 c) ⊢ (reg0 m).pre c := by
  rw [StableHlo.held_sub_split (c : Thread nD τ) arr_sub (V1 m c)]
  show iprop((StableHlo.held (c : Thread nD τ) (Pipeline.arrRefs (τ := τ) spec0) (V1 m c) ∗ StableHlo.held (c : Thread nD τ) Sr (V1 m c))
      ∗ ((∃ r, prngReg c r) ∗ Tk (V1 m) c ∗ ∃ Wd, owes (c : Thread nD τ) (O₀ c) Wd)) ⊢ iprop(StableHlo.held (c : Thread nD τ) (Pipeline.arrRefs (τ := τ) spec0) (V1 m c) ∗ (∃ r, prngReg c r)
    ∗ (StableHlo.held (c : Thread nD τ) Sr (V1 m c) ∗ emp) ∗ Tk (V1 m) c ∗ ∃ Wd, owes (c : Thread nD τ) (0 + O₀ c) Wd)
  iintro ⟨⟨HA, HR⟩, HP, HT, %Wd, HO⟩
  isplitl [HA]; · iexact HA
  isplitl [HP]; · iexact HP
  isplitl [HR]
  · isplitl [HR]; · iexact HR
    iempintro
  isplitl [HT]; · iexact HT
  iexists Wd
  rw [zero_add]
  iexact HO

set_option backward.isDefEq.respectTransparency.types false in
theorem of_post (c : Dev nD) : (reg0 m).post c ⊢ iprop(StableHlo.held (c : Thread nD τ) (Pipeline.ucRefs τ sig) (Wend m c) ∗ rest m 1 c) := by
  rw [StableHlo.held_sub_split (c : Thread nD τ) arr_sub (Wend m c)]
  unfold rest
  refine (show iprop(StableHlo.held (c : Thread nD τ) (Pipeline.arrRefs (τ := τ) spec0) (Wend m c) ∗ (∃ r, prngReg c r)
    ∗ (StableHlo.held (c : Thread nD τ) Sr (Wend m c) ∗ emp) ∗ semVal (barCell c) 0 ∗ ∃ Wd, owes (c : Thread nD τ) 0 Wd) ⊢ _ from ?_)
  iintro ⟨HA, HP, ⟨HR, -⟩, HB, HO⟩
  isplitl [HA HR]
  · isplitl [HA] <;> iassumption
  isplitl [HB] <;> iassumption

/-- The launch: the barrier counters fund the protocol, and every device is dealt its part. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ rest m 0 c)) : sProp 𝕄) := by
  have hsems (c : Dev nD) : (unscopedSems0 c : sProp 𝕄) = semVal (barCell c) 0 := by
    unfold unscopedSems0
    rw [show (Finset.univ.filter fun sm : SemLoc sig => ¬ sm.isScoped .tc) = {SemLoc.reg barS} from by decide, BI.bigSep_singleton]
  have hone (c : Dev nD) : iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)
      ⊢ (iprop(semVal (barCell c) 0 ∗ G (F := F) c ∗ (StableHlo.held (c : Thread nD τ) (Pipeline.ucRefs τ sig) (V0 m c)
            ∗ owes (c : Thread nD τ) (O₀ c) ∅ ∗ (cred (tallyAt (barCell c) () 2) ∗ creds c) ∗ prngReg c (ρ c))) : sProp 𝕄) := by
    rw [hsems, ← Pipeline.unscopedBufs_held (Ix := Unit) (Name := ℕ) (U := UU) (Lvl := ℕ) c (V0 m c)]
    iintro ⟨HB, HS, HO, HC, HP, HG⟩
    isplitl [HS]; · iexact HS
    isplitl [HG]; · iexact HG
    isplitl [HB]; · iexact HB
    isplitl [HO]; · iexact HO
    isplitl [HC]; · iapply (cred_dealt c); iexact HC
    iexact HP
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (iprop((bigSep Finset.univ fun c : Dev nD => semVal (barCell c) 0) ∗ bigSep Finset.univ (G (F := F))
          ∗ bigSep Finset.univ fun c : Dev nD => iprop(StableHlo.held (c : Thread nD τ) (Pipeline.ucRefs τ sig) (V0 m c)
            ∗ owes (c : Thread nD τ) (O₀ c) ∅ ∗ (cred (tallyAt (barCell c) () 2) ∗ creds c) ∗ prngReg c (ρ c))) : sProp 𝕄) := by
    rw [← bigSep_sep', ← bigSep_sep']
    exact bigSep_mono fun c _ => hone c
  iintro ⟨H, HL⟩
  ihave H' := hsplit $$ H
  icases H' with ⟨HS, HG, HR⟩
  imod (fund (V1 m)) $$ [HS HG HL] with ⟨%K, #HK, HLin⟩
  · isplitl [HS]; · iexact HS
    isplitl [HG] <;> iassumption
  imodintro
  have hlast : iprop(records (V1 m) K ∗ bigSep Finset.univ fun c : Dev nD => iprop(linear c
        ∗ (StableHlo.held (c : Thread nD τ) (Pipeline.ucRefs τ sig) (V0 m c) ∗ owes (c : Thread nD τ) (O₀ c) ∅ ∗ (cred (tallyAt (barCell c) () 2) ∗ creds c) ∗ prngReg c (ρ c))))
      ⊢ (bigSep Finset.univ (fun c : Dev nD => iprop(StableHlo.held (c : Thread nD τ) (Pipeline.ucRefs τ sig) (V0 m c) ∗ rest m 0 c)) : sProp 𝕄) :=
    bigSep_with_persistent fun c _ => by
      unfold rest Tk
      iintro ⟨#HK, HLin, HB, HO, ⟨HC, HCs⟩, HP⟩
      isplitl [HB]; · iexact HB
      isplitl [HP]; · iexists ρ c; iexact HP
      isplitl [HLin HC HCs]
      · isplitl [HLin]
        · iexists K
          isplitr; · iexact HK
          iexact HLin
        isplitl [HC] <;> iassumption
      iexists ∅; iexact HO
  iapply hlast
  isplitr; · iexact HK
  iapply zip
  isplitl [HLin] <;> iassumption

theorem hu₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G
  iintro Hu
  ihave H := (ownU_pair _ _) $$ Hu
  icases H with ⟨HP, HX⟩
  imodintro
  isplitl [HP]; · iexact HP
  rw [bigSep_parked]
  iexact HX

theorem unscoped_eq : ∀ sm : SemLoc sig, sm.isScoped .tc = false → sm = .reg barS := by decide

theorem mem_uc (r : Ref sig .tc) (h : r.isScoped = false) : (Proc.devRef .tc r : DevRef τ sig) ∈ Pipeline.ucRefs τ sig :=
  Finset.mem_filter.mpr ⟨StableHlo.devRef_mem_tcRefs r, by show ¬ r.isScoped = true; rw [h]; decide⟩

set_option backward.isDefEq.respectTransparency.types false in
/-- Every fair execution of the program ends; every device then holds its arguments as launched and its result as the body
    computes it, and every counter is zero. -/
theorem run_main : θ_run defs (onTc (τ := τ) (main (F := F))) ⟨m, fun _ => 0, ρ⟩ (fun r => (∀ c : Dev nD,
      r.2.mem ((c.tc : Thread nD τ).loc main_v19) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg0 m))
    (fun c Q => by
      rewrite [main_chain c, Seg.run_eq_chain,
        show (segs m 𝒱₀ L lv (rest m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀ hu₀
    (T₀ := fun c => iprop(StableHlo.held (c : Thread nD τ) (Pipeline.ucRefs τ sig) (V0 m c) ∗ rest m 0 c))
    (Tₙ := fun c => iprop(StableHlo.held (c : Thread nD τ) (Pipeline.ucRefs τ sig) (Wend m c) ∗ semVal (barCell c) 0))
    (hch := fun c => ⟨.rfl, pre_of m c, (of_post m c).trans (by
      unfold rest
      iintro ⟨HB, HS, HO⟩
      isplitl [HB HS]; · isplitl [HB] <;> iassumption
      iexact HO)⟩)
    (hinit := init m ρ)
    (QY := fun c s => (s.mem ((c.tc : Thread nD τ).loc main_v19) = outV m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_)
    (hQ := fun s h hs => ⟨fun c => (h c).1, sem_eq_zero hs fun c sm hsm => by obtain rfl := unscoped_eq sm hsm; exact (h c).2⟩)
  unfold StableHlo.held
  iintro ⟨⟨Hh, HB⟩, HSI⟩
  ihave Hr := (pointsTo_read_all (Pipeline.ucRefs τ sig) (fun b => ((c : Thread nD τ).1, b)) (Wend m c) s') $$ [Hh HSI]
  · isplitl [Hh] <;> iassumption
  icases Hr with ⟨%h, HSI⟩
  icombine HSI HB gives %hb
  imodintro
  isplitr
  · ipureintro
    have arg (r : Ref sig .tc) (hs : r.isScoped = false) (h19 : r ≠ main_v19) (hW : r ∉ hostOps0_W) :
        s'.mem.mem ((c.tc : Thread nD τ).loc r) = m ((c.tc : Thread nD τ).loc r) :=
      (h (Proc.devRef .tc r) (mem_uc r hs)).trans ((Wend_of m c r h19).trans (V1_of m c r hW))
    exact ⟨⟨(h (Proc.devRef .tc main_v19) (mem_uc main_v19 rfl)).trans (Wend_v19 m c),
      arg main_arg0 rfl (by decide) (by decide), arg main_arg1 rfl (by decide) (by decide), arg main_arg2 rfl (by decide) (by decide),
      arg main_arg3 rfl (by decide) (by decide), arg main_arg4 rfl (by decide) (by decide)⟩, by simpa using hb⟩
  · iexact HSI

end Cert.KernelIdealProof

end
-- ==== Proof.Spec.lean ====
/-
  One head of attention over the extended reals.
-/
module

public import Idealize.ShloMosaic.Lib.Pointwise

@[expose] public section

noncomputable section

namespace Cert.Attention

open Idealize.ShloMosaic

/-- A query row's score against a key row. -/
def score (q k : Fin 128 → Fin 64 → EReal) (i j : Fin 128) : EReal := (∑ d, q i d * k j d) * Ideal.ofBits .f32 0x3E000000#32

/-- Its weight before the division: the exponential of the score less the row's largest. -/
def weight (q k : Fin 128 → Fin 64 → EReal) (i j : Fin 128) : EReal :=
  Ideal.exp (score q k i j - Finset.univ.fold max (Ideal.ofBits .f32 0xFF800000#32) fun j' => score q k i j')

/-- The head's output: the values' average under the weights. -/
def att (q k v : Fin 128 → Fin 64 → EReal) (i : Fin 128) (d : Fin 64) : EReal :=
  ∑ j, Ideal.div (weight q k i j) (∑ j', weight q k i j') * v j d

/-- Feature `d` of head `h` among all. -/
def col (h : Fin 16) (d : Fin 64) : Fin 1024 := ⟨h.val * 64 + d.val, by omega⟩

/-- What head `h` adds to the output of batch `b`: its attention over the queries `x·wq`, the keys and the values, against its rows
    of the output weights. -/
def part (x : FVec Ideal ⟨3, ![8, 128, 512]⟩ .f32) (wq : FVec Ideal ⟨2, ![512, 1024]⟩ .f32) (k v : FVec Ideal ⟨4, ![8, 128, 16, 64]⟩ .f32)
    (wo : FVec Ideal ⟨2, ![1024, 512]⟩ .f32) (b : Fin 8) (h : Fin 16) (i : Fin 128) (j : Fin 512) : EReal :=
  ∑ d : Fin 64, att (fun i d => ∑ t : Fin 512, x (ix3 b i t) * wq (ix2 t (col h d))) (fun i d => k (ix4 b i h d))
    (fun i d => v (ix4 b i h d)) i d * wo (ix2 (col h d) j)

end Cert.Attention

end
-- ==== Proof.KernelIdeal.Attend.lean ====
/-
  One half's contribution to the output, as the kernel computes it, and the sums it is at an index.
-/
module

public import proofs.«01_k».proof.Proof.KernelIdeal.Vals
public import proofs.«01_k».proof.Proof.Spec

@[expose] public section

set_option maxRecDepth 65536

noncomputable section

namespace Cert.KernelIdealProof

open Cert.KernelIdeal Cert.KernelIdeal.Gen
open Idealize.ShloMosaic
open Cert.KernelIdeal.Facts

section Generic
variable {F : FTy → Type} [FloatOps F]

/-- A head's scores: queries against keys, scaled. -/
def scores (q k : FVec F S128x64 .bf16) : FVec F S128x128 .f32 :=
  mulf (matmul dot_S128x64_S128x64_S128x128_1_1_0_0_n_n none q k (constant S128x128 .f32 0x00000000#32))
    (broadcast S128x128 (Scalar.ofBits .f32 0x3E000000#32))

/-- A row's values less its largest, exponentiated. -/
def expo (s : FVec F S128x128 .f32) : FVec F S128x128 .f32 :=
  exp (subf s (broadcastTo S128x128 (shapeCast S128x1
    (multiReduction .maximumf [1] S128 s 0xFF800000#32 reduces_S128x128_S128 (.inl rfl) rfl) shapeCasts_S128_S128x1) broadcasts_S128x1_S128x128))

/-- Each row over its sum. -/
def norm (w : FVec F S128x128 .f32) : FVec F S128x128 .f32 :=
  divf w (broadcastTo S128x128 (shapeCast S128x1
    (multiReduction .add [1] S128 w 0x00000000#32 reduces_S128x128_S128 (.inl rfl) rfl) shapeCasts_S128_S128x1) broadcasts_S128x1_S128x128)

/-- A head's context. -/
def head (q k v : FVec F S128x64 .bf16) : FVec F S128x64 .f32 :=
  matmul dot_S128x128_S128x64_S128x64_1_0_0_1_n_n none (truncf .bf16 (norm (expo (scores q k))) bitsLt_bf16_f32) v
    (constant S128x64 .f32 0x00000000#32)

/-- The first head's columns of a half. -/
def lo (q : FVec F S128x128 .bf16) : FVec F S128x64 .bf16 := extractStridedSlice S128x64 ![0, 0] q slices_S128x128_o0_0_S128x64
/-- The second head's columns of a half. -/
def hi (q : FVec F S128x128 .bf16) : FVec F S128x64 .bf16 := extractStridedSlice S128x64 ![0, 64] q slices_S128x128_o0_64_S128x64

/-- The two unit axes of a loaded head dropped. -/
def hd (k : Vec F S1x1x128x64 .bf16) : FVec F S128x64 .bf16 :=
  shapeCast S128x64 (shapeCast S1x128x64 k shapeCasts_S1x1x128x64_S1x128x64) shapeCasts_S1x128x64_S128x64

/-- A half's queries. -/
def queries (wq : Vec F S512x128 .bf16) (x : Vec F S1x128x512 .bf16) : FVec F S128x128 .bf16 :=
  truncf .bf16 (matmul dot_S128x512_S512x128_S128x128_1_0_0_1_n_n none (shapeCast S128x512 x shapeCasts_S1x128x512_S128x512) wq
    (constant S128x128 .f32 0x00000000#32)) bitsLt_bf16_f32

/-- A half's contribution to the output. -/
def half (wq : Vec F S512x128 .bf16) (wo : Vec F S128x512 .bf16) (x : Vec F S1x128x512 .bf16)
    (k₀ v₀ k₁ v₁ : Vec F S1x1x128x64 .bf16) : FVec F S128x512 .f32 :=
  matmul dot_S128x128_S128x512_S128x512_1_0_0_1_n_n none
    (truncf .bf16 (concatenate S128x128 1 [⟨S128x64, head (lo (queries wq x)) (hd k₀) (hd v₀)⟩,
      ⟨S128x64, head (hi (queries wq x)) (hd k₁) (hd v₁)⟩] concatenates_S128x64_S128x64_S128x128_d1) bitsLt_bf16_f32) wo
    (constant S128x512 .f32 0x00000000#32)

/-- An output row block from a matrix. -/
def up (a : FVec F S128x512 .f32) : FVec F S1x128x512 .f32 := shapeCast S1x128x512 a shapeCasts_S128x512_S1x128x512
/-- A contribution added to an output row block. -/
def acc (o : FVec F S1x128x512 .f32) (a : FVec F S128x512 .f32) : FVec F S1x128x512 .f32 :=
  up (addf (shapeCast S128x512 o shapeCasts_S1x128x512_S128x512) a)

variable (W : Dev nD → Valuation τ sig (Elt F)) (c : Dev nD)

theorem s12_eq : s12 W c = up (half (qA W c) (oA W c) (u103 W c) (u111 W c) (u115 W c) (u137 W c) (u141 W c)) := rfl
theorem s15_eq : s15 W c = up (half (qA W c) (oA W c) (u165 W c) (u173 W c) (u177 W c) (u199 W c) (u203 W c)) := rfl
theorem s21_eq : s21 W c = acc (s12 W c) (half (qB W c) (oB W c) (u229 W c) (u237 W c) (u241 W c) (u263 W c) (u267 W c)) := rfl
theorem s27_eq : s27 W c = acc (s15 W c) (half (qB W c) (oB W c) (u294 W c) (u302 W c) (u306 W c) (u328 W c) (u332 W c)) := rfl
theorem s33_eq : s33 W c = acc (s21 W c) (half (qA W (lf c)) (oA W (lf c)) (u401 W c) (u409 W c) (u413 W c) (u435 W c) (u439 W c)) := rfl
theorem s38_eq : s38 W c = acc (s27 W c) (half (qA W (lf c)) (oA W (lf c)) (u466 W c) (u474 W c) (u478 W c) (u500 W c) (u504 W c)) := rfl
theorem s43_eq : s43 W c = acc (s33 W c) (half (qB W (rt c)) (oB W (rt c)) (u533 W c) (u541 W c) (u545 W c) (u567 W c) (u571 W c)) := rfl
theorem s46_eq : s46 W c = acc (s38 W c) (half (qB W (rt c)) (oB W (rt c)) (u598 W c) (u606 W c) (u610 W c) (u632 W c) (u636 W c)) := rfl
theorem s50_eq : s50 W c = acc (s43 W c) (half (qB W (lf c)) (oB W (lf c)) (u673 W c) (u681 W c) (u685 W c) (u707 W c) (u711 W c)) := rfl
theorem s54_eq : s54 W c = acc (s46 W c) (half (qB W (lf c)) (oB W (lf c)) (u738 W c) (u746 W c) (u750 W c) (u772 W c) (u776 W c)) := rfl
theorem s57_eq : s57 W c = acc (s50 W c) (half (qA W (rt c)) (oA W (rt c)) (u813 W c) (u821 W c) (u825 W c) (u847 W c) (u851 W c)) := rfl
theorem s62_eq : s62 W c = acc (s54 W c) (half (qA W (rt c)) (oA W (rt c)) (u878 W c) (u886 W c) (u890 W c) (u912 W c) (u916 W c)) := rfl
theorem s65_eq : s65 W c = acc (s57 W c) (half (qA W (lf (lf c))) (oA W (lf (lf c))) (u953 W c) (u961 W c) (u965 W c) (u987 W c) (u991 W c)) := rfl
theorem s70_eq : s70 W c = acc (s62 W c) (half (qA W (lf (lf c))) (oA W (lf (lf c))) (u1018 W c) (u1026 W c) (u1030 W c) (u1052 W c) (u1056 W c)) := rfl
theorem s75_eq : s75 W c = acc (s65 W c) (half (qB W (rt (rt c))) (oB W (rt (rt c))) (u1093 W c) (u1101 W c) (u1105 W c) (u1127 W c) (u1131 W c)) := rfl
theorem s81_eq : s81 W c = acc (s70 W c) (half (qB W (rt (rt c))) (oB W (rt (rt c))) (u1158 W c) (u1166 W c) (u1170 W c) (u1192 W c) (u1196 W c)) := rfl

end Generic

/-! ## At an index -/

open Cert.Attention

/-- A head's context at an index. -/
theorem head_apply (q k v : FVec Ideal S128x64 .bf16) (i : Fin 128) (d : Fin 64) :
    head q k v (ix2 i d) = att (fun i d => q (ix2 i d)) (fun i d => k (ix2 i d)) (fun i d => v (ix2 i d)) i d := by
  pointwise [head, norm, expo, scores, att, weight, score]

theorem lo_queries (wq : Vec Ideal S512x128 .bf16) (x : Vec Ideal S1x128x512 .bf16) (i : Fin 128) (d : Fin 64) :
    lo (queries wq x) (ix2 i d) = ∑ t : Fin 512, x (ix3 0 i t) * wq (ix2 t ⟨d.val, by omega⟩) := by
  pointwise [lo, queries]

theorem hi_queries (wq : Vec Ideal S512x128 .bf16) (x : Vec Ideal S1x128x512 .bf16) (i : Fin 128) (d : Fin 64) :
    hi (queries wq x) (ix2 i d) = ∑ t : Fin 512, x (ix3 0 i t) * wq (ix2 t ⟨64 + d.val, by omega⟩) := by
  pointwise [hi, queries]

theorem hd_apply (k : Vec Ideal S1x1x128x64 .bf16) (i : Fin 128) (d : Fin 64) : hd k (ix2 i d) = k (ix4 0 0 i d) := by
  pointwise [hd]

/-- Two heads side by side against the output weights. -/
theorem pair_apply (wo : FVec Ideal S128x512 .bf16) (a b : FVec Ideal S128x64 .f32) (i : Fin 128) (j : Fin 512) :
    (matmul dot_S128x128_S128x512_S128x512_1_0_0_1_n_n none
      (truncf .bf16 (concatenate S128x128 1 [⟨S128x64, a⟩, ⟨S128x64, b⟩] concatenates_S128x64_S128x64_S128x128_d1 : FVec Ideal S128x128 .f32)
        bitsLt_bf16_f32) wo (constant S128x512 .f32 0x00000000#32) : FVec Ideal S128x512 .f32) (ix2 i j)
      = (∑ d : Fin 64, a (ix2 i d) * wo (ix2 ⟨d.val, by omega⟩ j)) + ∑ d : Fin 64, b (ix2 i d) * wo (ix2 ⟨64 + d.val, by omega⟩ j) := by
  pointwise

/-- A half's contribution at an index. -/
theorem half_apply (wq : Vec Ideal S512x128 .bf16) (wo : Vec Ideal S128x512 .bf16) (x : Vec Ideal S1x128x512 .bf16)
    (k₀ v₀ k₁ v₁ : Vec Ideal S1x1x128x64 .bf16) (i : Fin 128) (j : Fin 512) :
    half wq wo x k₀ v₀ k₁ v₁ (ix2 i j)
      = (∑ d : Fin 64, att (fun i d => ∑ t : Fin 512, x (ix3 0 i t) * wq (ix2 t ⟨d.val, by omega⟩)) (fun i d => k₀ (ix4 0 0 i d))
            (fun i d => v₀ (ix4 0 0 i d)) i d * wo (ix2 ⟨d.val, by omega⟩ j))
        + ∑ d : Fin 64, att (fun i d => ∑ t : Fin 512, x (ix3 0 i t) * wq (ix2 t ⟨64 + d.val, by omega⟩)) (fun i d => k₁ (ix4 0 0 i d))
            (fun i d => v₁ (ix4 0 0 i d)) i d * wo (ix2 ⟨64 + d.val, by omega⟩ j) := by
  unfold half
  refine (pair_apply wo _ _ i j).trans ?_
  simp only [head_apply, lo_queries, hi_queries, hd_apply]

theorem up_apply (a : FVec Ideal S128x512 .f32) (i : Fin 128) (j : Fin 512) : up a (ix3 0 i j) = a (ix2 i j) := by
  pointwise [up]
theorem acc_apply (o : FVec Ideal S1x128x512 .f32) (a : FVec Ideal S128x512 .f32) (i : Fin 128) (j : Fin 512) :
    acc o a (ix3 0 i j) = o (ix3 0 i j) + a (ix2 i j) := by
  pointwise [acc, up]

end Cert.KernelIdealProof

end
-- ==== Proof.KernelIdeal.Reads.lean ====
/-
  The kernel's loads at an index, and each half's contribution as two heads of the device's own arrays.
-/
module

public import proofs.«01_k».proof.Proof.KernelIdeal.Attend

@[expose] public section

set_option maxRecDepth 65536

noncomputable section

namespace Cert.KernelIdealProof

open Cert.KernelIdeal Cert.KernelIdeal.Gen Cert.Attention
open Idealize.ShloMosaic
open Cert.KernelIdeal.Facts

/-- Head `n` of device `o`'s four. -/
def hI (o : Dev nD) (n : Fin 4) : Fin 16 := ⟨4 * o.val + n.val, by have := o.isLt; have : nD = 4 := rfl; omega⟩
/-- Feature `d` of a device's head `n`. -/
def cl (n : Fin 4) (d : Fin 64) : Fin 256 := ⟨64 * n.val + d.val, by omega⟩

/-- A load of one head's keys. -/
theorem rd23 (off : Fin 4 → Nat) (h) (f : CK Ideal) (b : Fin 2) (e : Fin 16) (ho : off = ![b.val, e.val, 0, 0]) (i : Fin 128) (d : Fin 64) :
    M23.view.readAt (Elt Ideal) (Rect.unit (s := S2x16x128x64) off S1x1x128x64.size h).toLoadRect f (ix4 0 0 i d) = f (ix4 b e i d) := by
  subst ho
  show f ((Rect.unit (s := S2x16x128x64) _ S1x1x128x64.size h).toLoadRect.idx _) = _
  pointwise
/-- A load of one head's values. -/
theorem rd24 (off : Fin 4 → Nat) (h) (f : CK Ideal) (b : Fin 2) (e : Fin 16) (ho : off = ![b.val, e.val, 0, 0]) (i : Fin 128) (d : Fin 64) :
    M24.view.readAt (Elt Ideal) (Rect.unit (s := S2x16x128x64) off S1x1x128x64.size h).toLoadRect f (ix4 0 0 i d) = f (ix4 b e i d) :=
  rd23 off h f b e ho i d
/-- A load of one batch of the rounded input. -/
theorem rd6 (W : Dev nD → Valuation τ sig (Elt Ideal)) (c : Dev nD) (b : Fin 2) (h) (i : Fin 128) (t : Fin 512) :
    (M6.view.readAt (Elt Ideal) (Rect.unit (s := S2x128x512) ![b.val, 0, 0] S1x128x512.size h).toLoadRect (x16 W c) (ix3 0 i t) : EReal)
      = (xV W c (ix3 b i t) : EReal) := by
  have e : ∀ y, (x16 W c y : EReal) = (xV W c y : EReal) := fun y => by
    show k0_pay6 (fun x => xV W c ((Rect.unit (s := S2x128x512) _ S2x128x512.size _).toLoadRect.idx x)) y = _
    pointwise [k0_pay6]
  show (x16 W c ((Rect.unit (s := S2x128x512) _ S1x128x512.size h).toLoadRect.idx _) : EReal) = _
  rw [e]
  pointwise

theorem qA_0 (W) (c : Dev nD) (t : Fin 512) (d : Fin 64) : qA (F := Ideal) W c (ix2 t ⟨d.val, by omega⟩) = wqV W c (ix2 t (cl 0 d)) := by
  show k0_pay1 (fun x => wqV W c ((Rect.unit (s := S512x256) _ S512x128.size _).toLoadRect.idx x)) _ = _
  pointwise [k0_pay1, k0_pay2, k0_pay3, cl]
theorem oA_0 (W) (c : Dev nD) (d : Fin 64) (j : Fin 512) : oA (F := Ideal) W c (ix2 ⟨d.val, by omega⟩ j) = woV W c (ix2 (cl 0 d) j) := by
  show k0_pay4 (fun x => woV W c ((Rect.unit (s := S256x512) _ S128x512.size _).toLoadRect.idx x)) _ = _
  pointwise [k0_pay4, k0_pay5, cl]
theorem qA_1 (W) (c : Dev nD) (t : Fin 512) (d : Fin 64) : qA (F := Ideal) W c (ix2 t ⟨64 + d.val, by omega⟩) = wqV W c (ix2 t (cl 1 d)) := by
  show k0_pay1 (fun x => wqV W c ((Rect.unit (s := S512x256) _ S512x128.size _).toLoadRect.idx x)) _ = _
  pointwise [k0_pay1, k0_pay2, k0_pay3, cl]
theorem oA_1 (W) (c : Dev nD) (d : Fin 64) (j : Fin 512) : oA (F := Ideal) W c (ix2 ⟨64 + d.val, by omega⟩ j) = woV W c (ix2 (cl 1 d) j) := by
  show k0_pay4 (fun x => woV W c ((Rect.unit (s := S256x512) _ S128x512.size _).toLoadRect.idx x)) _ = _
  pointwise [k0_pay4, k0_pay5, cl]
theorem qB_2 (W) (c : Dev nD) (t : Fin 512) (d : Fin 64) : qB (F := Ideal) W c (ix2 t ⟨d.val, by omega⟩) = wqV W c (ix2 t (cl 2 d)) := by
  show k0_pay3 (k0_pay2 (fun x => wqV W c ((Rect.unit (s := S512x256) _ S512x128.size _).toLoadRect.idx x))) _ = _
  pointwise [k0_pay1, k0_pay2, k0_pay3, cl]
theorem oB_2 (W) (c : Dev nD) (d : Fin 64) (j : Fin 512) : oB (F := Ideal) W c (ix2 ⟨d.val, by omega⟩ j) = woV W c (ix2 (cl 2 d) j) := by
  show k0_pay5 (fun x => woV W c ((Rect.unit (s := S256x512) _ S128x512.size _).toLoadRect.idx x)) _ = _
  pointwise [k0_pay4, k0_pay5, cl]
theorem qB_3 (W) (c : Dev nD) (t : Fin 512) (d : Fin 64) : qB (F := Ideal) W c (ix2 t ⟨64 + d.val, by omega⟩) = wqV W c (ix2 t (cl 3 d)) := by
  show k0_pay3 (k0_pay2 (fun x => wqV W c ((Rect.unit (s := S512x256) _ S512x128.size _).toLoadRect.idx x))) _ = _
  pointwise [k0_pay1, k0_pay2, k0_pay3, cl]
  exact congrArg (fun e => wqV W c (ix2 t e)) (Fin.ext (by show 128 + (64 + d.val) = 192 + d.val; omega))
theorem oB_3 (W) (c : Dev nD) (d : Fin 64) (j : Fin 512) : oB (F := Ideal) W c (ix2 ⟨64 + d.val, by omega⟩ j) = woV W c (ix2 (cl 3 d) j) := by
  show k0_pay5 (fun x => woV W c ((Rect.unit (s := S256x512) _ S128x512.size _).toLoadRect.idx x)) _ = _
  pointwise [k0_pay4, k0_pay5, cl]
  exact congrArg (fun e => woV W c (ix2 e j)) (Fin.ext (by show 128 + (64 + d.val) = 192 + d.val; omega))

/-- What head `n` of device `o` adds to device `c`'s batch `b`: its attention against its rows of the output weights. -/
def con (W : Dev nD → Valuation τ sig (Elt Ideal)) (c : Dev nD) (b : Fin 2) (o : Dev nD) (n : Fin 4) (i : Fin 128) (j : Fin 512) : EReal :=
  ∑ d : Fin 64, att (fun i d => ∑ t : Fin 512, xV W c (ix3 b i t) * wqV W o (ix2 t (cl n d)))
    (fun i d => kV W c (ix4 b (hI o n) i d)) (fun i d => vV W c (ix4 b (hI o n) i d)) i d * woV W o (ix2 (cl n d) j)

theorem con_congr {q q' k k' v v' : Fin 128 → Fin 64 → EReal} {w w' : Fin 64 → EReal} (i : Fin 128) (hq : ∀ i d, q i d = q' i d)
    (hk : ∀ i d, k i d = k' i d) (hv : ∀ i d, v i d = v' i d) (hw : ∀ d, w d = w' d) :
    ∑ d, att q k v i d * w d = ∑ d, att q' k' v' i d * w' d := by
  rw [funext fun i => funext (hq i), funext fun i => funext (hk i), funext fun i => funext (hv i), funext hw]
theorem plus {a b a' b' : EReal} (h : a = a') (k : b = b') : a + b = a' + b' := by rw [h, k]
theorem times {a b a' b' : EReal} (h : a = a') (k : b = b') : a * b = a' * b' := by rw [h, k]

/-- A first half's contribution is its two heads'. -/
theorem halfA (W : Dev nD → Valuation τ sig (Elt Ideal)) (c o : Dev nD) (b : Fin 2) (hx) (o₀ o₁ : Fin 4 → Nat) (h₀ h₁) (e₀ : o₀ = ![b.val, (hI o 0).val, 0, 0])
    (e₁ : o₁ = ![b.val, (hI o 1).val, 0, 0]) (i : Fin 128) (j : Fin 512) :
    half (F := Ideal) (qA W o) (oA W o) (M6.view.readAt (Elt Ideal) (Rect.unit (s := S2x128x512) ![b.val, 0, 0] S1x128x512.size hx).toLoadRect (x16 W c))
      (M23.view.readAt (Elt Ideal) (Rect.unit (s := S2x16x128x64) o₀ S1x1x128x64.size h₀).toLoadRect (kV W c))
      (M24.view.readAt (Elt Ideal) (Rect.unit (s := S2x16x128x64) o₀ S1x1x128x64.size h₀).toLoadRect (vV W c))
      (M23.view.readAt (Elt Ideal) (Rect.unit (s := S2x16x128x64) o₁ S1x1x128x64.size h₁).toLoadRect (kV W c))
      (M24.view.readAt (Elt Ideal) (Rect.unit (s := S2x16x128x64) o₁ S1x1x128x64.size h₁).toLoadRect (vV W c)) (ix2 i j)
      = con W c b o 0 i j + con W c b o 1 i j := by
  refine (half_apply _ _ _ _ _ _ _ i j).trans ?_
  exact plus (con_congr i (fun i d => Finset.sum_congr rfl fun t _ => times (rd6 W c b hx i t) (qA_0 W o t d))
    (fun i d => rd23 _ _ _ b _ e₀ i d) (fun i d => rd24 _ _ _ b _ e₀ i d) fun d => oA_0 W o d j)
    (con_congr i (fun i d => Finset.sum_congr rfl fun t _ => times (rd6 W c b hx i t) (qA_1 W o t d))
    (fun i d => rd23 _ _ _ b _ e₁ i d) (fun i d => rd24 _ _ _ b _ e₁ i d) fun d => oA_1 W o d j)

/-- A second half's contribution is its two heads'. -/
theorem halfB (W : Dev nD → Valuation τ sig (Elt Ideal)) (c o : Dev nD) (b : Fin 2) (hx) (o₀ o₁ : Fin 4 → Nat) (h₀ h₁) (e₀ : o₀ = ![b.val, (hI o 2).val, 0, 0])
    (e₁ : o₁ = ![b.val, (hI o 3).val, 0, 0]) (i : Fin 128) (j : Fin 512) :
    half (F := Ideal) (qB W o) (oB W o) (M6.view.readAt (Elt Ideal) (Rect.unit (s := S2x128x512) ![b.val, 0, 0] S1x128x512.size hx).toLoadRect (x16 W c))
      (M23.view.readAt (Elt Ideal) (Rect.unit (s := S2x16x128x64) o₀ S1x1x128x64.size h₀).toLoadRect (kV W c))
      (M24.view.readAt (Elt Ideal) (Rect.unit (s := S2x16x128x64) o₀ S1x1x128x64.size h₀).toLoadRect (vV W c))
      (M23.view.readAt (Elt Ideal) (Rect.unit (s := S2x16x128x64) o₁ S1x1x128x64.size h₁).toLoadRect (kV W c))
      (M24.view.readAt (Elt Ideal) (Rect.unit (s := S2x16x128x64) o₁ S1x1x128x64.size h₁).toLoadRect (vV W c)) (ix2 i j)
      = con W c b o 2 i j + con W c b o 3 i j := by
  refine (half_apply _ _ _ _ _ _ _ i j).trans ?_
  exact plus (con_congr i (fun i d => Finset.sum_congr rfl fun t _ => times (rd6 W c b hx i t) (qB_2 W o t d))
    (fun i d => rd23 _ _ _ b _ e₀ i d) (fun i d => rd24 _ _ _ b _ e₀ i d) fun d => oB_2 W o d j)
    (con_congr i (fun i d => Finset.sum_congr rfl fun t _ => times (rd6 W c b hx i t) (qB_3 W o t d))
    (fun i d => rd23 _ _ _ b _ e₁ i d) (fun i d => rd24 _ _ _ b _ e₁ i d) fun d => oB_3 W o d j)

/-! ## Where each load of keys and values starts -/

theorem start1 : ∀ (c : Dev nD) (h r : Fin 2), k0_off1 c (BitVec.ofNat 32 (2 * h.val)) (BitVec.ofNat 32 r.val) = ![0, (hI c ⟨2 * h.val + r.val, by omega⟩).val, 0, 0] := by decide
theorem start2 : ∀ (c : Dev nD) (h r : Fin 2), k0_off2 c (BitVec.ofNat 32 (2 * h.val)) (BitVec.ofNat 32 r.val) = ![1, (hI c ⟨2 * h.val + r.val, by omega⟩).val, 0, 0] := by decide
theorem start3 : ∀ (c : Dev nD) (h r : Fin 2), k0_off3 c (BitVec.ofNat 32 (2 * h.val)) (BitVec.ofNat 32 r.val) = ![0, (hI (lf c) ⟨2 * h.val + r.val, by omega⟩).val, 0, 0] := by decide
theorem start4 : ∀ (c : Dev nD) (h r : Fin 2), k0_off4 c (BitVec.ofNat 32 (2 * h.val)) (BitVec.ofNat 32 r.val) = ![1, (hI (lf c) ⟨2 * h.val + r.val, by omega⟩).val, 0, 0] := by decide
theorem start5 : ∀ (c : Dev nD) (h r : Fin 2), k0_off5 c 1#32 (BitVec.ofNat 32 (2 * h.val)) (BitVec.ofNat 32 r.val) = ![0, (hI (rt c) ⟨2 * h.val + r.val, by omega⟩).val, 0, 0] := by decide
theorem start6 : ∀ (c : Dev nD) (h r : Fin 2), k0_off6 c 1#32 (BitVec.ofNat 32 (2 * h.val)) (BitVec.ofNat 32 r.val) = ![1, (hI (rt c) ⟨2 * h.val + r.val, by omega⟩).val, 0, 0] := by decide
theorem start7 : ∀ (c : Dev nD) (h r : Fin 2), k0_off5 c 2#32 (BitVec.ofNat 32 (2 * h.val)) (BitVec.ofNat 32 r.val) = ![0, (hI (rt (rt c)) ⟨2 * h.val + r.val, by omega⟩).val, 0, 0] := by decide
theorem start8 : ∀ (c : Dev nD) (h r : Fin 2), k0_off6 c 2#32 (BitVec.ofNat 32 (2 * h.val)) (BitVec.ofNat 32 r.val) = ![1, (hI (rt (rt c)) ⟨2 * h.val + r.val, by omega⟩).val, 0, 0] := by decide

/-! ## The output's two batches -/

/-- A device, its neighbours and the opposite device are all four. -/
theorem around (f : Dev nD → EReal) : ∀ c : Dev nD, f c + f (lf c) + f (rt c) + f (rt (rt c)) = ∑ o : Dev nD, f o := by
  intro c
  have e : ∑ o : Dev nD, f o = f 0 + f 1 + f 2 + f 3 := Fin.sum_univ_four f
  rw [e]
  fin_cases c
  · show f 0 + f 3 + f 1 + f 2 = _; abel
  · show f 1 + f 0 + f 2 + f 3 = _; abel
  · show f 2 + f 1 + f 3 + f 0 = _; abel
  · show f 3 + f 2 + f 0 + f 1 = _; abel

/-- Batch 0 of device `c`'s output at an index: every head of every device once. -/
theorem s75_apply (W) (c : Dev nD) (i : Fin 128) (j : Fin 512) :
    s75 (F := Ideal) W c (ix3 0 i j) = ∑ o : Dev nD, ((con W c 0 o 0 i j + con W c 0 o 1 i j) + (con W c 0 o 2 i j + con W c 0 o 3 i j)) := by
  rw [s75_eq, s65_eq, s57_eq, s50_eq, s43_eq, s33_eq, s21_eq, s12_eq, lf_lf]
  simp only [acc_apply, up_apply]
  rw [← around _ c]
  refine Eq.trans (plus (plus (plus (plus (plus (plus (plus (halfA W c c 0 _ _ _ _ _ (start1 c 0 0) (start1 c 0 1) i j)
    (halfB W c c 0 _ _ _ _ _ (start1 c 1 0) (start1 c 1 1) i j))
    (halfA W c (lf c) 0 _ _ _ _ _ (start3 c 0 0) (start3 c 0 1) i j))
    (halfB W c (rt c) 0 _ _ _ _ _ (start5 c 1 0) (start5 c 1 1) i j))
    (halfB W c (lf c) 0 _ _ _ _ _ (start3 c 1 0) (start3 c 1 1) i j))
    (halfA W c (rt c) 0 _ _ _ _ _ (start5 c 0 0) (start5 c 0 1) i j))
    (halfA W c (rt (rt c)) 0 _ _ _ _ _ (start7 c 0 0) (start7 c 0 1) i j))
    (halfB W c (rt (rt c)) 0 _ _ _ _ _ (start7 c 1 0) (start7 c 1 1) i j)) ?_
  abel

/-- Batch 1 of device `c`'s output at an index: every head of every device once. -/
theorem s81_apply (W) (c : Dev nD) (i : Fin 128) (j : Fin 512) :
    s81 (F := Ideal) W c (ix3 0 i j) = ∑ o : Dev nD, ((con W c 1 o 0 i j + con W c 1 o 1 i j) + (con W c 1 o 2 i j + con W c 1 o 3 i j)) := by
  rw [s81_eq, s70_eq, s62_eq, s54_eq, s46_eq, s38_eq, s27_eq, s15_eq, lf_lf]
  simp only [acc_apply, up_apply]
  rw [← around _ c]
  refine Eq.trans (plus (plus (plus (plus (plus (plus (plus (halfA W c c 1 _ _ _ _ _ (start2 c 0 0) (start2 c 0 1) i j)
    (halfB W c c 1 _ _ _ _ _ (start2 c 1 0) (start2 c 1 1) i j))
    (halfA W c (lf c) 1 _ _ _ _ _ (start4 c 0 0) (start4 c 0 1) i j))
    (halfB W c (rt c) 1 _ _ _ _ _ (start6 c 1 0) (start6 c 1 1) i j))
    (halfB W c (lf c) 1 _ _ _ _ _ (start4 c 1 0) (start4 c 1 1) i j))
    (halfA W c (rt c) 1 _ _ _ _ _ (start6 c 0 0) (start6 c 0 1) i j))
    (halfA W c (rt (rt c)) 1 _ _ _ _ _ (start8 c 0 0) (start8 c 0 1) i j))
    (halfB W c (rt (rt c)) 1 _ _ _ _ _ (start8 c 1 0) (start8 c 1 1) i j)) ?_
  abel

end Cert.KernelIdealProof

end
-- ==== Proof.KernelIdeal.Host.lean ====
/-
  The device's batches of the keys and the values, as the host's operations cut them out.
-/
module

public import proofs.«01_k».proof.Proof.KernelIdeal.Reads
public import proofs.«01_k».proof.Proof.Gen.KernelIdeal.Regions
public import Idealize.ShloMosaic.Lib.Claim

@[expose] public section

set_option maxRecDepth 65536

noncomputable section

namespace Cert.KernelIdealProof

open Cert.KernelIdeal Cert.KernelIdeal.Gen Cert.Attention
open Idealize.ShloMosaic
open Cert.KernelIdeal.Facts

/-- Device `c`'s batch `b` among the eight. -/
def bt (c : Dev nD) (b : Fin 2) : Fin 8 := ⟨2 * c.val + b.val, by have := c.isLt; have : nD = 4 := rfl; omega⟩

/-- The rounded, transposed cut at device `c`'s first batch. -/
theorem cut (x : FVec Ideal S8x128x16x64 .f32) (st : Fin 4 → Int) (c : Dev nD) (hs : ∀ k, st k = (![2 * c.val, 0, 0, 0] : Fin 4 → Nat) k) (b : Fin 2)
    (h : Fin 16) (i : Fin 128) (d : Fin 64) :
    transpose S2x16x128x64 [0, 2, 1, 3] (truncf .bf16 (Host.dynamicSlice S2x128x16x64 x st sliceFits_S8x128x16x64_S2x128x16x64 : FVec Ideal S2x128x16x64 .f32)
      bitsLt_bf16_f32 : FVec Ideal S2x128x16x64 .bf16) transposes_S2x128x16x64_S2x16x128x64_0_2_1_3 (ix4 b h i d) = x (ix4 (bt c b) i h d) := by
  obtain rfl : st = fun k => ((![2 * c.val, 0, 0, 0] : Fin 4 → Nat) k : Int) := funext hs
  have e : ∀ (a : Fin 4), Host.clampedStart S8x128x16x64 S2x128x16x64 rfl (fun k => ((![2 * c.val, 0, 0, 0] : Fin 4 → Nat) k : Int)) a
      = (![2 * c.val, 0, 0, 0] : Fin 4 → Nat) a := fun a =>
    Host.clampedStart_of_le (s := S8x128x16x64) (t := S2x128x16x64) rfl _ a _ rfl (by clear hs; revert c a; decide)
  pointwise
  refine congrArg x ?_
  simp only [e]
  congr 1 <;> exact Fin.ext (by simp [bt])

theorem four {P : Fin 4 → Prop} (h₀ : P 0) (h₁ : P 1) (h₂ : P 2) (h₃ : P 3) (k : Fin 4) : P k := by
  fin_cases k <;> assumption

/-- Device `c`'s keys: its two batches, heads first. -/
theorem kV_apply (m : (ℓ : Loc nD τ sig) → Buf (Elt Ideal) ℓ) (c : Dev nD) (b : Fin 2) (h : Fin 16) (i : Fin 128) (d : Fin 64) :
    (kV (V1 m) c (ix4 b h i d) : EReal) = (m ((c.tc : Thread nD τ).loc main_arg2) : FVec Ideal S8x128x16x64 .f32) (ix4 (bt c b) i h d) := by
  unfold kV V1
  after_results_simp
  refine cut _ _ c (four ?_ ?_ ?_ ?_) b h i d
  · dsimp only [Matrix.cons_val_zero]
    after_results_simp
    fin_cases c <;> rfl
  · dsimp only [Matrix.cons_val_one, Matrix.cons_val_zero, Matrix.head_cons]
    after_results_simp
    rfl
  · dsimp only [Matrix.cons_val]
    after_results_simp
    rfl
  · dsimp only [Matrix.cons_val]
    after_results_simp
    rfl

/-- Device `c`'s values: its two batches, heads first. -/
theorem vV_apply (m : (ℓ : Loc nD τ sig) → Buf (Elt Ideal) ℓ) (c : Dev nD) (b : Fin 2) (h : Fin 16) (i : Fin 128) (d : Fin 64) :
    (vV (V1 m) c (ix4 b h i d) : EReal) = (m ((c.tc : Thread nD τ).loc main_arg3) : FVec Ideal S8x128x16x64 .f32) (ix4 (bt c b) i h d) := by
  unfold vV V1
  after_results_simp
  refine cut _ _ c (four ?_ ?_ ?_ ?_) b h i d
  · dsimp only [Matrix.cons_val_zero]
    after_results_simp
    fin_cases c <;> rfl
  · dsimp only [Matrix.cons_val_one, Matrix.cons_val_zero, Matrix.head_cons]
    after_results_simp
    rfl
  · dsimp only [Matrix.cons_val]
    after_results_simp
    rfl
  · dsimp only [Matrix.cons_val]
    after_results_simp
    rfl
end Cert.KernelIdealProof

end
-- ==== Proof.Reference.lean ====
/-
  The reference's output at an index: the sum of every head's part.
-/
module

public import proofs.«01_k».proof.Proof.Spec
public import proofs.«01_k».proof.Proof.Gen.ReferenceIdeal.Run

@[expose] public section

set_option maxRecDepth 65536

noncomputable section

namespace Cert.Attention

open Cert.ReferenceIdeal Cert.ReferenceIdeal.Value
open Idealize.ShloMosaic

/-- The window covers every pair of positions. -/
theorem window : ∀ i j : Fin 128, IntOp.cmpi .sle (IntOp.absi (IntOp.subi (BitVec.ofNat 32 i.val) (BitVec.ofNat 32 j.val))) 128#32 = 1#1 := by
  decide +kernel

/-- So no row is without a position in it. -/
theorem covered : Finset.fold IntOp.ori 0#1 (fun _ : Fin 128 => 1#1) Finset.univ = 1#1 := by decide +kernel
theorem taken (a b : EReal) : Scalar.select 1#1 a b = a := rfl

/-- The reference's output at an index. -/
theorem ref_apply (m : (ℓ : Loc nD τ sig) → Buf (Elt Ideal) ℓ) (b : Fin 8) (i : Fin 128) (j : Fin 512) :
    (res_main_v34 m 0 (ix3 b i j) : EReal) = ∑ h : Fin 16, part (m ((Dev.tc 0 : Thread nD τ).loc main_arg0)) (m ((Dev.tc 0 : Thread nD τ).loc main_arg1))
      (m ((Dev.tc 0 : Thread nD τ).loc main_arg2)) (m ((Dev.tc 0 : Thread nD τ).loc main_arg3)) (m ((Dev.tc 0 : Thread nD τ).loc main_arg4)) b h i j := by
  pointwise [res_main_v34]
  simp only [window, id_eq, covered, taken]
  have e₁ : ∀ (h : Fin 16) (d : Fin 64), (h.val * 64 + d.val) / 64 = h.val := fun h d => by omega
  have e₂ : ∀ (h : Fin 16) (d : Fin 64), (h.val * 64 + d.val) % 64 = d.val := fun h d => by omega
  refine (Fin.sum_univ_tiles (M := EReal) 16 64 rfl _).trans ?_
  refine Finset.sum_congr rfl fun h _ => Finset.sum_congr rfl fun d _ => ?_
  simp only [e₁, e₂, Fin.eta]
  exact congrArg (· * _) (Finset.sum_congr rfl fun j' _ => mul_comm _ _)

end Cert.Attention

end
-- ==== Proof.Equation.lean ====
/-
  The kernel's output on each device is that device's block of the reference's.
-/
module

public import proofs.«01_k».proof.Proof.KernelIdeal.Host
public import proofs.«01_k».proof.Proof.KernelIdeal.Launch
public import proofs.«01_k».proof.Proof.Reference
public import Idealize.ShloMosaic.Lib.Layout

@[expose] public section

set_option maxRecDepth 65536

noncomputable section

namespace Cert.KernelIdealProof

open Cert.KernelIdeal Cert.KernelIdeal.Gen Cert.Attention
open Idealize.ShloMosaic

/-- Device `c`'s block of an array cut along its batches. -/
theorem block_batch (v : FVec Ideal ⟨3, ![8, 128, 512]⟩ .f32) (c : Dev nD) (b : Fin 2) (i : Fin 128) (t : Fin 512) (h) :
    Layout.block ⟨3, ![2, 128, 512]⟩ ⟨3, ![8, 128, 512]⟩ 0 4 c v h (ix3 b i t) = v (ix3 (bt c b) i t) := by
  refine congrArg v (funext fun a => Fin.ext ?_)
  fin_cases a
  · exact congrArg (· + b.val) (Nat.mul_comm _ _)
  · rfl
  · rfl
/-- Its block of the query weights, at a feature of one of its heads. -/
theorem block_query (v : FVec Ideal ⟨2, ![512, 1024]⟩ .f32) (o : Dev nD) (n : Fin 4) (t : Fin 512) (d : Fin 64) (h) :
    Layout.block ⟨2, ![512, 256]⟩ ⟨2, ![512, 1024]⟩ 1 4 o v h (ix2 t (cl n d)) = v (ix2 t (col (hI o n) d)) := by
  refine congrArg v (funext fun a => Fin.ext ?_)
  fin_cases a
  · rfl
  · show o.val * 256 + (64 * n.val + d.val) = (4 * o.val + n.val) * 64 + d.val; omega
/-- Its block of the output weights, at a feature of one of its heads. -/
theorem block_out (v : FVec Ideal ⟨2, ![1024, 512]⟩ .f32) (o : Dev nD) (n : Fin 4) (d : Fin 64) (j : Fin 512) (h) :
    Layout.block ⟨2, ![256, 512]⟩ ⟨2, ![1024, 512]⟩ 0 4 o v h (ix2 (cl n d) j) = v (ix2 (col (hI o n) d) j) := by
  refine congrArg v (funext fun a => Fin.ext ?_)
  fin_cases a
  · show o.val * 256 + (64 * n.val + d.val) = (4 * o.val + n.val) * 64 + d.val; omega
  · rfl

section
variable (m : (ℓ : Loc nD τ sig) → Buf (Elt Ideal) ℓ) (x : FVec Ideal ⟨3, ![8, 128, 512]⟩ .f32) (wq : FVec Ideal ⟨2, ![512, 1024]⟩ .f32)
  (k v : FVec Ideal ⟨4, ![8, 128, 16, 64]⟩ .f32) (wo : FVec Ideal ⟨2, ![1024, 512]⟩ .f32)

/-- Device `c`'s arguments are its blocks of the reference's. -/
def Agree (c : Dev nD) : Prop :=
  m ((c.tc : Thread nD τ).loc main_arg0) = Layout.block ⟨3, ![2, 128, 512]⟩ ⟨3, ![8, 128, 512]⟩ 0 4 c x
  ∧ m ((c.tc : Thread nD τ).loc main_arg1) = Layout.block ⟨2, ![512, 256]⟩ ⟨2, ![512, 1024]⟩ 1 4 c wq
  ∧ m ((c.tc : Thread nD τ).loc main_arg2) = k
  ∧ m ((c.tc : Thread nD τ).loc main_arg3) = v
  ∧ m ((c.tc : Thread nD τ).loc main_arg4) = Layout.block ⟨2, ![256, 512]⟩ ⟨2, ![1024, 512]⟩ 0 4 c wo

variable {m x wq k v wo}

/-- A head's contribution, in the reference's arrays. -/
theorem con_eq (H : ∀ c, Agree m x wq k v wo c) (c o : Dev nD) (b : Fin 2) (n : Fin 4) (i : Fin 128) (j : Fin 512) :
    con (V1 m) c b o n i j = part x wq k v wo (bt c b) (hI o n) i j := by
  refine con_congr i (fun i d => Finset.sum_congr rfl fun t _ => times ?_ ?_) (fun i d => ?_) (fun i d => ?_) fun d => ?_
  · exact (congrFun ((V1_of m c main_arg0 (by decide)).trans (H c).1) _).trans (block_batch x c b i t _)
  · exact (congrFun ((V1_of m o main_arg1 (by decide)).trans (H o).2.1) _).trans (block_query wq o n t d _)
  · exact (kV_apply m c b (hI o n) i d).trans (congrFun (H c).2.2.1 _)
  · exact (vV_apply m c b (hI o n) i d).trans (congrFun (H c).2.2.2.1 _)
  · exact (congrFun ((V1_of m o main_arg4 (by decide)).trans (H o).2.2.2.2) _).trans (block_out wo o n d j _)

/-- Every head once, device by device. -/
theorem heads (f : Fin 16 → EReal) : ∑ o : Dev nD, ((f (hI o 0) + f (hI o 1)) + (f (hI o 2) + f (hI o 3))) = ∑ h, f h := by
  refine Eq.trans (Finset.sum_congr rfl fun o _ => ?_) (Fin.sum_univ_tiles (M := EReal) 4 4 rfl f).symm
  rw [Fin.sum_univ_four, ← add_assoc]
  have e : ∀ n : Fin 4, hI o n = ⟨o.val * 4 + n.val, by have := o.isLt; have : nD = 4 := rfl; omega⟩ := fun n =>
    Fin.ext (congrArg (· + n.val) (Nat.mul_comm _ _))
  simp only [e]

/-- Device `c`'s output at an index: every head's part. -/
theorem out_apply (H : ∀ c, Agree m x wq k v wo c) (c : Dev nD) (b : Fin 2) (i : Fin 128) (j : Fin 512) :
    (outV m c (ix3 b i j) : EReal) = ∑ h : Fin 16, part x wq k v wo (bt c b) h i j := by
  refine Eq.trans ?_ (heads _)
  fin_cases b
  · refine (s75_apply (V1 m) c i j).trans (Finset.sum_congr rfl fun o _ => ?_)
    simp only [con_eq H]; rfl
  · refine (s81_apply (V1 m) c i j).trans (Finset.sum_congr rfl fun o _ => ?_)
    simp only [con_eq H]; rfl
end

/-- So it is device `c`'s block of the reference's output. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (H : ∀ c, Agree m (m' ((Dev.tc 0 : Thread Cert.ReferenceIdeal.nD Cert.ReferenceIdeal.τ).loc Cert.ReferenceIdeal.main_arg0))
      (m' ((Dev.tc 0 : Thread Cert.ReferenceIdeal.nD Cert.ReferenceIdeal.τ).loc Cert.ReferenceIdeal.main_arg1))
      (m' ((Dev.tc 0 : Thread Cert.ReferenceIdeal.nD Cert.ReferenceIdeal.τ).loc Cert.ReferenceIdeal.main_arg2))
      (m' ((Dev.tc 0 : Thread Cert.ReferenceIdeal.nD Cert.ReferenceIdeal.τ).loc Cert.ReferenceIdeal.main_arg3))
      (m' ((Dev.tc 0 : Thread Cert.ReferenceIdeal.nD Cert.ReferenceIdeal.τ).loc Cert.ReferenceIdeal.main_arg4)) c) (c : Dev nD) :
    outV m c = Layout.block ⟨3, ![2, 128, 512]⟩ ⟨3, ![8, 128, 512]⟩ 0 4 c (Cert.ReferenceIdeal.Value.res_main_v34 m' 0) := by
  funext y
  have ey : y = ix3 (y 0) (y 1) (y 2) := by
    funext a; fin_cases a <;> rfl
  rw [ey]
  exact (out_apply H c (y 0) (y 1) (y 2)).trans ((ref_apply m' (bt c (y 0)) (y 1) (y 2)).symm.trans (block_batch _ c (y 0) (y 1) (y 2) _).symm)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, leaves its arguments and ends with every counter at zero, at the machine's floats. -/
theorem frame_kernel : Cert.quiescent_Kernel (hKernel := Cert.Kernel.Gen.facts) := fun m g _ =>
  (θ_run _ _ _).mono (fun _ h => ⟨fun c => (h.1 c).2, h.2⟩) (Cert.KernelProof.run_main m g)

/-- The same at exact arithmetic. -/
theorem frame_ideal : Cert.quiescent_KernelIdeal (hKernelIdeal := Cert.KernelIdeal.Gen.facts) := fun m g _ =>
  (θ_run _ _ _).mono (fun _ h => ⟨fun c => (h.1 c).2, h.2⟩) (Cert.KernelIdealProof.run_main m g)

/-- The reference runs and leaves its arguments; it declares no semaphore. -/
theorem frame_ref : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- At exact arithmetic every device's result is its block of the reference's. -/
theorem equal : Cert.algebraic_KernelIdeal_ReferenceIdeal (hKernelIdeal := Cert.KernelIdeal.Gen.facts)
    (hReferenceIdeal := Cert.ReferenceIdeal.Gen.facts) := fun m g m' g' _ H =>
  ⟨Cert.ReferenceIdeal.Value.res_main_v34 m' 0,
    (θ_run _ _ _).mono (fun _ h c => ⟨(h.1 c).1.trans (Cert.KernelIdealProof.out_eq m m' H c), (h.1 c).2⟩) (Cert.KernelIdealProof.run_main m g),
    (θ_run _ _ _).mono (fun _ h => h 0) (Cert.ReferenceIdeal.Value.run m' g')⟩

/-- Everything claimed. -/
theorem claim : Cert.Claim := ⟨Cert.Kernel.Gen.facts, Cert.KernelIdeal.Gen.facts, Cert.ReferenceIdeal.Gen.facts,
  frame_kernel, frame_ideal, frame_ref, trivial, equal⟩

end Cert.Proof

end
